-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_edges_in_range_top_logits_finite [hPre_edges_in_range_top_logits_finite : Cert.Pre_edges_in_range_top_logits_finite.Facts] (m : (ℓ : Loc Cert.KernelIdeal.nD Cert.KernelIdeal.τ Cert.KernelIdeal.sig) → Buf (Elt Ideal) ℓ) : Prop :=
  ∀ c : Dev Cert.KernelIdeal.nD,
    (Cert.Pre_edges_in_range_top_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edges_in_range_top_logits_finite [hPre_edges_in_range_top_logits_finite : Cert.Pre_edges_in_range_top_logits_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_in_range_top_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_edges_in_range_top_logits_finite [hKernelIdeal : Cert.KernelIdeal.Facts] [hPre_edges_in_range_top_logits_finite : Cert.Pre_edges_in_range_top_logits_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_edges_in_range_top_logits_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_edges_in_range_top_logits_finite [hReferenceIdeal : Cert.ReferenceIdeal.Facts] [hPre_edges_in_range_top_logits_finite : Cert.Pre_edges_in_range_top_logits_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_in_range_top_logits_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_edges_in_range_top_logits_finite [hKernelIdeal : Cert.KernelIdeal.Facts] [hReferenceIdeal : Cert.ReferenceIdeal.Facts] [hPre_edges_in_range_top_logits_finite : Cert.Pre_edges_in_range_top_logits_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_edges_in_range_top_logits_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_edges_in_range_top_logits_finite : Cert.Pre_edges_in_range_top_logits_finite.Facts),
    quiescent_Kernel (hKernel := hKernel)
    ∧ quiescent_KernelIdeal (hKernelIdeal := hKernelIdeal)
    ∧ quiescent_KernelIdeal_pre_edges_in_range_top_logits_finite (hKernelIdeal := hKernelIdeal) (hPre_edges_in_range_top_logits_finite := hPre_edges_in_range_top_logits_finite)
    ∧ quiescent_ReferenceIdeal (hReferenceIdeal := hReferenceIdeal)
    ∧ quiescent_ReferenceIdeal_pre_edges_in_range_top_logits_finite (hReferenceIdeal := hReferenceIdeal) (hPre_edges_in_range_top_logits_finite := hPre_edges_in_range_top_logits_finite)
    ∧ preserves_Kernel_KernelIdeal
    ∧ algebraic_KernelIdeal_ReferenceIdeal_pre_edges_in_range_top_logits_finite (hKernelIdeal := hKernelIdeal) (hReferenceIdeal := hReferenceIdeal) (hPre_edges_in_range_top_logits_finite := hPre_edges_in_range_top_logits_finite)
-- ==== Pre_edges_in_range_top_logits_finite.lean ====
abbrev S10000x256 : Shape := ⟨2, ![10000, 256]⟩
abbrev S2x160000 : Shape := ⟨2, ![2, 160000]⟩
abbrev S256x8 : Shape := ⟨2, ![256, 8]⟩
abbrev S8 : Shape := ⟨1, ![8]⟩
abbrev S8x256x256 : Shape := ⟨3, ![8, 256, 256]⟩
abbrev S8x256 : Shape := ⟨2, ![8, 256]⟩
abbrev S_ : Shape := ⟨0, ![]⟩
abbrev S10000x8 : Shape := ⟨2, ![10000, 8]⟩
abbrev S1x8 : Shape := ⟨2, ![1, 8]⟩
abbrev S10000 : Shape := ⟨1, ![10000]⟩

class Facts : Prop where
  bcast_S_S2x160000 : S_.BroadcastsInDim S2x160000 (![] : Fin 0 → Fin S2x160000.rank)
  reducesTo_S2x160000_S_d0_1 : S2x160000.ReducesTo [0, 1] S_
  h_S_ : 0 < S_.numel
  bcast_S8_S1x8_1 : S8.BroadcastsInDim S1x8 (![1] : Fin 1 → Fin S1x8.rank)
  bcast_S1x8_S10000x8_0_1 : S1x8.BroadcastsInDim S10000x8 (![0, 1] : Fin 2 → Fin S10000x8.rank)
  reducesTo_S10000x8_S10000_d1 : S10000x8.ReducesTo [1] S10000
  bcast_S_S10000 : S_.BroadcastsInDim S10000 (![] : Fin 0 → Fin S10000.rank)
  reducesTo_S10000_S_d0 : S10000.ReducesTo [0] S_
  dot_S10000x256_S256x8_S10000x8_1_0_0_1_n_n_wf : DotDims.WF S10000x256 S256x8 S10000x8 [1] [0] [0] [1] [] []

variable [Facts]

def dot_S10000x256_S256x8_S10000x8_1_0_0_1_n_n : DotDims S10000x256 S256x8 S10000x8 where
  lhsContracting := [1]
  rhsContracting := [0]
  lhsNonContracting := [0]
  rhsNonContracting := [1]
  lhsBatch := []
  rhsBatch := []
  wf := dot_S10000x256_S256x8_S10000x8_1_0_0_1_n_n_wf
def fn {F : FTy → Type} [FloatOps F] (main_arg0 : FVec F S10000x256 .f32) (main_arg1 : IVec S2x160000 32) (main_arg2 : FVec F S256x8 .f32) (main_arg3 : FVec F S8 .f32) (main_arg4 : FVec F S8x256x256 .f32) (main_arg5 : FVec F S8x256 .f32) (main_arg6 : FVec F S8x256x256 .f32) (main_arg7 : FVec F S8x256x256 .f32) (main_arg8 : FVec F S8x256 .f32) (main_arg9 : FVec F S8x256x256 .f32) : IVec S_ 1 :=
  let main_c : IVec S_ 32 := constantI S_ 32 0#32
  let main_v0 : IVec S2x160000 32 := broadcastInDim S2x160000 ![] bcast_S_S2x160000 main_c
  let main_v1 : IVec S2x160000 1 := cmpi .sge main_arg1 main_v0
  let main_c_0 : IVec S_ 32 := constantI S_ 32 10000#32
  let main_v2 : IVec S2x160000 32 := broadcastInDim S2x160000 ![] bcast_S_S2x160000 main_c_0
  let main_v3 : IVec S2x160000 1 := cmpi .slt main_arg1 main_v2
  let main_v4 : IVec S2x160000 1 := andi main_v1 main_v3
  let main_c_1 : IVec S_ 1 := constantI S_ 1 1#1
  let main_v5 : IVec S_ 1 := (fun x v => Host.reduce IntOp.andi x v reducesTo_S2x160000_S_d0_1 h_S_) main_v4 main_c_1
  let main_v6 : FVec F S10000x8 .f32 := (fun l r => Host.dotGeneral dot_S10000x256_S256x8_S10000x8_1_0_0_1_n_n none l r) main_arg0 main_arg2
  let main_v7 : FVec F S1x8 .f32 := broadcastInDim S1x8 ![1] bcast_S8_S1x8_1 main_arg3
  let main_v8 : FVec F S10000x8 .f32 := broadcastInDim S10000x8 ![0, 1] bcast_S1x8_S10000x8_0_1 main_v7
  let main_v9 : FVec F S10000x8 .f32 := addf main_v6 main_v8
  let main_cst : FVec F S_ .f32 := constant S_ .f32 0xFF800000#32
  let main_v10 : FVec F S10000 .f32 := (fun x v => Host.reduce FloatOps.maximumf x v reducesTo_S10000x8_S10000_d1 h_S_) main_v9 main_cst
  let main_v11 : FVec F S10000 .f32 := Host.absf main_v10
  let main_cst_2 : FVec F S_ .f32 := constant S_ .f32 0x7F800000#32
  let main_v12 : FVec F S10000 .f32 := broadcastInDim S10000 ![] bcast_S_S10000 main_cst_2
  let main_v13 : IVec S10000 1 := cmpf .olt main_v11 main_v12
  let main_c_3 : IVec S_ 1 := constantI S_ 1 1#1
  let main_v14 : IVec S_ 1 := (fun x v => Host.reduce IntOp.andi x v reducesTo_S10000_S_d0 h_S_) main_v13 main_c_3
  let main_v15 : IVec S_ 1 := andi main_v5 main_v14
  main_v15
-- ==== Kernel.lean ====
abbrev S10000x256 : Shape := ⟨2, ![10000, 256]⟩
abbrev S2x160000 : Shape := ⟨2, ![2, 160000]⟩
abbrev S256x8 : Shape := ⟨2, ![256, 8]⟩
abbrev S8 : Shape := ⟨1, ![8]⟩
abbrev S8x256x256 : Shape := ⟨3, ![8, 256, 256]⟩
abbrev S8x256 : Shape := ⟨2, ![8, 256]⟩
abbrev S1x160000 : Shape := ⟨2, ![1, 160000]⟩
abbrev S160000 : Shape := ⟨1, ![160000]⟩
abbrev S10000x8 : Shape := ⟨2, ![10000, 8]⟩
abbrev S1000x256 : Shape := ⟨2, ![1000, 256]⟩
abbrev S1000x8 : Shape := ⟨2, ![1000, 8]⟩
abbrev S1x8 : Shape := ⟨2, ![1, 8]⟩
abbrev S1000 : Shape := ⟨1, ![1000]⟩
abbrev S1000x1 : Shape := ⟨2, ![1000, 1]⟩
abbrev S_ : Shape := ⟨0, ![]⟩
abbrev S10000 : Shape := ⟨1, ![10000]⟩
abbrev S160000x1 : Shape := ⟨2, ![160000, 1]⟩
abbrev S1 : Shape := ⟨1, ![1]⟩
abbrev S1x1 : Shape := ⟨2, ![1, 1]⟩
abbrev S160000x256 : Shape := ⟨2, ![160000, 256]⟩
abbrev S10000x1 : Shape := ⟨2, ![10000, 1]⟩
abbrev S10000x512 : Shape := ⟨2, ![10000, 512]⟩
abbrev S8x512x256 : Shape := ⟨3, ![8, 512, 256]⟩
abbrev S8x1x256 : Shape := ⟨3, ![8, 1, 256]⟩
abbrev S8x10000x256 : Shape := ⟨3, ![8, 10000, 256]⟩
abbrev S1000x512 : Shape := ⟨2, ![1000, 512]⟩
abbrev S1x512x256 : Shape := ⟨3, ![1, 512, 256]⟩
abbrev S1x1x256 : Shape := ⟨3, ![1, 1, 256]⟩
abbrev S1x256x256 : Shape := ⟨3, ![1, 256, 256]⟩
abbrev S1x1000x256 : Shape := ⟨3, ![1, 1000, 256]⟩
abbrev S512x256 : Shape := ⟨2, ![512, 256]⟩
abbrev S1x256 : Shape := ⟨2, ![1, 256]⟩
abbrev S256x256 : Shape := ⟨2, ![256, 256]⟩
abbrev S80000x256 : Shape := ⟨2, ![80000, 256]⟩
abbrev S10000x2 : Shape := ⟨2, ![10000, 2]⟩
abbrev S160000x2 : Shape := ⟨2, ![160000, 2]⟩
abbrev S320000 : Shape := ⟨1, ![320000]⟩
abbrev S320000x1 : Shape := ⟨2, ![320000, 1]⟩
abbrev S320000x256 : Shape := ⟨2, ![320000, 256]⟩
abbrev S20000x256 : Shape := ⟨2, ![20000, 256]⟩

abbrev nBuf : Space → Nat
  | .hbm => 135
  | .vmem => 51
  | .smem => 0
  | _ => 0

abbrev hbmTy0_0 (i : Nat) : BufTy := match i % 128 with
  | 0 => ⟨S10000x256, .f32⟩
  | 1 => ⟨S2x160000, .i32⟩
  | 2 => ⟨S256x8, .f32⟩
  | 3 => ⟨S8, .f32⟩
  | 4 => ⟨S8x256x256, .f32⟩
  | 5 => ⟨S8x256, .f32⟩
  | 6 => ⟨S8x256x256, .f32⟩
  | 7 => ⟨S8x256x256, .f32⟩
  | 8 => ⟨S8x256, .f32⟩
  | 9 => ⟨S8x256x256, .f32⟩
  | 10 => ⟨S1x160000, .i32⟩
  | 11 => ⟨S160000, .i32⟩
  | 12 => ⟨S1x160000, .i32⟩
  | 13 => ⟨S160000, .i32⟩
  | 14 => ⟨S10000x8, .f32⟩
  | 15 => ⟨S10000x8, .f32⟩
  | 16 => ⟨S10000x8, .f32⟩
  | 17 => ⟨S10000x8, .i32⟩
  | 18 => ⟨S_, .f32⟩
  | 19 => ⟨S160000, .f32⟩
  | 20 => ⟨S_, .f32⟩
  | 21 => ⟨S10000, .f32⟩
  | 22 => ⟨S160000x1, .i32⟩
  | 23 => ⟨S10000, .f32⟩
  | 24 => ⟨S_, .i32⟩
  | 25 => ⟨S160000, .i32⟩
  | 26 => ⟨S160000, .i1⟩
  | 27 => ⟨S_, .i32⟩
  | 28 => ⟨S160000, .i32⟩
  | 29 => ⟨S160000, .i32⟩
  | 30 => ⟨S160000, .i32⟩
  | 31 => ⟨S160000x1, .i32⟩
  | 32 => ⟨S1, .i32⟩
  | 33 => ⟨S_, .i32⟩
  | 34 => ⟨S160000x1, .i32⟩
  | 35 => ⟨S160000x1, .i1⟩
  | 36 => ⟨S1x1, .i32⟩
  | 37 => ⟨S160000x1, .i32⟩
  | 38 => ⟨S160000x1, .i1⟩
  | 39 => ⟨S160000x1, .i1⟩
  | 40 => ⟨S_, .i1⟩
  | 41 => ⟨S160000, .i1⟩
  | 42 => ⟨S160000x256, .f32⟩
  | 43 => ⟨S160000x256, .i1⟩
  | 44 => ⟨S_, .f32⟩
  | 45 => ⟨S160000x256, .f32⟩
  | 46 => ⟨S160000x256, .f32⟩
  | 47 => ⟨S_, .f32⟩
  | 48 => ⟨S10000x256, .f32⟩
  | 49 => ⟨S160000x1, .i32⟩
  | 50 => ⟨S10000x256, .f32⟩
  | 51 => ⟨S_, .f32⟩
  | 52 => ⟨S10000, .f32⟩
  | 53 => ⟨S10000, .f32⟩
  | 54 => ⟨S_, .f32⟩
  | 55 => ⟨S10000, .f32⟩
  | 56 => ⟨S10000, .f32⟩
  | 57 => ⟨S10000x1, .f32⟩
  | 58 => ⟨S10000x256, .f32⟩
  | 59 => ⟨S10000x256, .f32⟩
  | 60 => ⟨S10000x512, .f32⟩
  | 61 => ⟨S8x512x256, .f32⟩
  | 62 => ⟨S8x1x256, .f32⟩
  | 63 => ⟨S8x10000x256, .f32⟩
  | 64 => ⟨S10000x256, .f32⟩
  | 65 => ⟨S10000x256, .f32⟩
  | 66 => ⟨S80000x256, .f32⟩
  | 67 => ⟨S10000x2, .i32⟩
  | 68 => ⟨S_, .i32⟩
  | 69 => ⟨S10000x2, .i32⟩
  | 70 => ⟨S10000x2, .i32⟩
  | 71 => ⟨S_, .i32⟩
  | 72 => ⟨S160000, .i32⟩
  | 73 => ⟨S160000, .i1⟩
  | 74 => ⟨S_, .i32⟩
  | 75 => ⟨S160000, .i32⟩
  | 76 => ⟨S160000, .i32⟩
  | 77 => ⟨S160000, .i32⟩
  | 78 => ⟨S160000x1, .i32⟩
  | 79 => ⟨S1, .i32⟩
  | 80 => ⟨S_, .i32⟩
  | 81 => ⟨S160000x1, .i32⟩
  | 82 => ⟨S160000x1, .i1⟩
  | 83 => ⟨S1x1, .i32⟩
  | 84 => ⟨S160000x1, .i32⟩
  | 85 => ⟨S160000x1, .i1⟩
  | 86 => ⟨S160000x1, .i1⟩
  | 87 => ⟨S_, .i1⟩
  | 88 => ⟨S160000, .i1⟩
  | 89 => ⟨S160000x2, .i32⟩
  | 90 => ⟨S160000x2, .i1⟩
  | 91 => ⟨S_, .i32⟩
  | 92 => ⟨S160000x2, .i32⟩
  | 93 => ⟨S160000x2, .i32⟩
  | 94 => ⟨S160000x1, .i32⟩
  | 95 => ⟨S160000, .i32⟩
  | 96 => ⟨S160000, .i32⟩
  | 97 => ⟨S160000x1, .i32⟩
  | 98 => ⟨S160000, .i32⟩
  | 99 => ⟨S160000, .i32⟩
  | 100 => ⟨S320000, .i32⟩
  | 101 => ⟨S_, .i32⟩
  | 102 => ⟨S160000, .i32⟩
  | 103 => ⟨S160000, .i32⟩
  | 104 => ⟨S320000, .i32⟩
  | 105 => ⟨S_, .i32⟩
  | 106 => ⟨S320000, .i32⟩
  | 107 => ⟨S320000, .i1⟩
  | 108 => ⟨S_, .i32⟩
  | 109 => ⟨S320000, .i32⟩
  | 110 => ⟨S320000, .i32⟩
  | 111 => ⟨S320000, .i32⟩
  | 112 => ⟨S320000x1, .i32⟩
  | 113 => ⟨S1, .i32⟩
  | 114 => ⟨S_, .i32⟩
  | 115 => ⟨S320000x1, .i32⟩
  | 116 => ⟨S320000x1, .i1⟩
  | 117 => ⟨S1x1, .i32⟩
  | 118 => ⟨S320000x1, .i32⟩
  | 119 => ⟨S320000x1, .i1⟩
  | 120 => ⟨S320000x1, .i1⟩
  | 121 => ⟨S_, .i1⟩
  | 122 => ⟨S320000, .i1⟩
  | 123 => ⟨S320000x256, .f32⟩
  | 124 => ⟨S320000x256, .i1⟩
  | 125 => ⟨S_, .f32⟩
  | 126 => ⟨S320000x256, .f32⟩
  | 127 => ⟨S320000x256, .f32⟩
  | _ => ⟨S10000x256, .f32⟩

abbrev hbmTy0_1 (i : Nat) : BufTy := match i % 128 with
  | 0 => ⟨S_, .f32⟩
  | 1 => ⟨S20000x256, .f32⟩
  | 2 => ⟨S320000x1, .i32⟩
  | 3 => ⟨S20000x256, .f32⟩
  | 4 => ⟨S10000x256, .f32⟩
  | 5 => ⟨S10000x256, .f32⟩
  | 6 => ⟨S10000x256, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | .local _ .vmem, ⟨0, _⟩ => ⟨S1000x256, .f32⟩
  | .local _ .vmem, ⟨1, _⟩ => ⟨S1000x256, .f32⟩
  | .local _ .vmem, ⟨2, _⟩ => ⟨S256x8, .f32⟩
  | .local _ .vmem, ⟨3, _⟩ => ⟨S8, .f32⟩
  | .local _ .vmem, ⟨4, _⟩ => ⟨S1000x8, .f32⟩
  | .local _ .vmem, ⟨5, _⟩ => ⟨S1000x8, .f32⟩
  | .local _ .vmem, ⟨6, _⟩ => ⟨S1000x8, .f32⟩
  | .local _ .vmem, ⟨7, _⟩ => ⟨S1000x8, .f32⟩
  | .local _ .vmem, ⟨8, _⟩ => ⟨S1000x8, .f32⟩
  | .local _ .vmem, ⟨9, _⟩ => ⟨S1000x8, .f32⟩
  | .local _ .vmem, ⟨10, _⟩ => ⟨S1000x8, .i32⟩
  | .local _ .vmem, ⟨11, _⟩ => ⟨S1000x8, .i32⟩
  | .local _ .vmem, ⟨12, _⟩ => ⟨S1000x512, .f32⟩
  | .local _ .vmem, ⟨13, _⟩ => ⟨S1000x512, .f32⟩
  | .local _ .vmem, ⟨14, _⟩ => ⟨S1x512x256, .f32⟩
  | .local _ .vmem, ⟨15, _⟩ => ⟨S1x512x256, .f32⟩
  | .local _ .vmem, ⟨16, _⟩ => ⟨S1x1x256, .f32⟩
  | .local _ .vmem, ⟨17, _⟩ => ⟨S1x1x256, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | .local _ .vmem, ⟨22, _⟩ => ⟨S1000x8, .f32⟩
  | .local _ .vmem, ⟨23, _⟩ => ⟨S1000x8, .f32⟩
  | .local _ .vmem, ⟨24, _⟩ => ⟨S1000x8, .f32⟩
  | .local _ .vmem, ⟨25, _⟩ => ⟨S1000x8, .f32⟩
  | .local _ .vmem, ⟨26, _⟩ => ⟨S1x1000x256, .f32⟩
  | .local _ .vmem, ⟨27, _⟩ => ⟨S1x1000x256, .f32⟩
  | .local _ .vmem, ⟨28, _⟩ => ⟨S1000x256, .f32⟩
  | .local _ .vmem, ⟨29, _⟩ => ⟨S1000x256, .f32⟩
  | .local _ .vmem, ⟨30, _⟩ => ⟨S1000x256, .f32⟩
  | .local _ .vmem, ⟨31, _⟩ => ⟨S1000x256, .f32⟩
  | .local _ .vmem, ⟨32, _⟩ => ⟨S1000x256, .f32⟩
  | .local _ .vmem, ⟨33, _⟩ => ⟨S1000x256, .f32⟩
  | .local _ .vmem, ⟨34, _⟩ => ⟨S1000x256, .f32⟩
  | .local _ .vmem, ⟨35, _⟩ => ⟨S1000x256, .f32⟩
  | .local _ .vmem, ⟨36, _⟩ => ⟨S1000x1, .f32⟩
  | .local _ .vmem, ⟨37, _⟩ => ⟨S1000x1, .f32⟩
  | .local _ .vmem, ⟨38, _⟩ => ⟨S1000x8, .f32⟩
  | .local _ .vmem, ⟨39, _⟩ => ⟨S1000x8, .f32⟩
  | .local _ .vmem, ⟨40, _⟩ => ⟨S1000x8, .f32⟩
  | .local _ .vmem, ⟨41, _⟩ => ⟨S1000x8, .f32⟩
  | .local _ .vmem, ⟨42, _⟩ => ⟨S1000x8, .f32⟩
  | .local _ .vmem, ⟨43, _⟩ => ⟨S1000x8, .f32⟩
  | .local _ .vmem, ⟨44, _⟩ => ⟨S8x256, .f32⟩
  | .local _ .vmem, ⟨45, _⟩ => ⟨S1000x256, .f32⟩
  | .local _ .vmem, ⟨46, _⟩ => ⟨S1000x256, .f32⟩
  | .local _ .vmem, ⟨47, _⟩ => ⟨S1000x256, .f32⟩
  | .local _ .vmem, ⟨48, _⟩ => ⟨S1000x256, .f32⟩
  | .local _ .vmem, ⟨49, _⟩ => ⟨S1000x256, .f32⟩
  | .local _ .vmem, ⟨50, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v9 : Ref sig .tc := ⟨.hbm, 46, rfl⟩
abbrev main_cst_1 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_cst_2 : Ref sig .tc := ⟨.hbm, 51, rfl⟩
abbrev main_v13 : Ref sig .tc := ⟨.hbm, 52, rfl⟩
abbrev main_v14 : Ref sig .tc := ⟨.hbm, 53, rfl⟩
abbrev main_cst_3 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23_0 : Ref sig .tc := ⟨.hbm, 63, rfl⟩
abbrev main_v23_1 : Ref sig .tc := ⟨.hbm, 64, rfl⟩
abbrev main_v23_2 : Ref sig .tc := ⟨.hbm, 65, rfl⟩
abbrev main_v24 : Ref sig .tc := ⟨.hbm, 66, rfl⟩
abbrev main_v25 : Ref sig .tc := ⟨.hbm, 67, rfl⟩
abbrev main_c : Ref sig .tc := ⟨.hbm, 68, rfl⟩
abbrev main_v26 : Ref sig .tc := ⟨.hbm, 69, rfl⟩
abbrev main_v27 : Ref sig .tc := ⟨.hbm, 70, rfl⟩
abbrev main_call1_c : Ref sig .tc := ⟨.hbm, 71, rfl⟩
abbrev main_call1_v0 : Ref sig .tc := ⟨.hbm, 72, rfl⟩
abbrev main_call1_v1 : Ref sig .tc := ⟨.hbm, 73, rfl⟩
abbrev main_call1_c_0 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_c_1 : Ref sig .tc := ⟨.hbm, 79, rfl⟩
abbrev main_call1_c_2 : Ref sig .tc := ⟨.hbm, 80, rfl⟩
abbrev main_call1_v6 : Ref sig .tc := ⟨.hbm, 81, rfl⟩
abbrev main_call1_v7 : Ref sig .tc := ⟨.hbm, 82, rfl⟩
abbrev main_call1_v8 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_call1_c_3 : Ref sig .tc := ⟨.hbm, 87, rfl⟩
abbrev main_call1_v12 : Ref sig .tc := ⟨.hbm, 88, rfl⟩
abbrev main_call1_v13 : Ref sig .tc := ⟨.hbm, 89, rfl⟩
abbrev main_call1_v14 : Ref sig .tc := ⟨.hbm, 90, rfl⟩
abbrev main_call1_c_4 : Ref sig .tc := ⟨.hbm, 91, rfl⟩
abbrev main_call1_v15 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_c_4 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_call2_c : Ref sig .tc := ⟨.hbm, 105, rfl⟩
abbrev main_call2_v0 : Ref sig .tc := ⟨.hbm, 106, rfl⟩
abbrev main_call2_v1 : Ref sig .tc := ⟨.hbm, 107, rfl⟩
abbrev main_call2_c_0 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_c_1 : Ref sig .tc := ⟨.hbm, 113, rfl⟩
abbrev main_call2_c_2 : Ref sig .tc := ⟨.hbm, 114, rfl⟩
abbrev main_call2_v6 : Ref sig .tc := ⟨.hbm, 115, rfl⟩
abbrev main_call2_v7 : Ref sig .tc := ⟨.hbm, 116, rfl⟩
abbrev main_call2_v8 : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_call2_c_3 : Ref sig .tc := ⟨.hbm, 121, rfl⟩
abbrev main_call2_v12 : Ref sig .tc := ⟨.hbm, 122, rfl⟩
abbrev main_call2_v13 : Ref sig .tc := ⟨.hbm, 123, rfl⟩
abbrev main_call2_v14 : Ref sig .tc := ⟨.hbm, 124, rfl⟩
abbrev main_call2_cst : Ref sig .tc := ⟨.hbm, 125, rfl⟩
abbrev main_call2_v15 : Ref sig .tc := ⟨.hbm, 126, rfl⟩
abbrev main_v39 : Ref sig .tc := ⟨.hbm, 127, rfl⟩
abbrev main_cst_5 : Ref sig .tc := ⟨.hbm, 128, rfl⟩
abbrev main_v40 : Ref sig .tc := ⟨.hbm, 129, rfl⟩
abbrev main_v41 : Ref sig .tc := ⟨.hbm, 130, rfl⟩
abbrev main_v42 : Ref sig .tc := ⟨.hbm, 131, rfl⟩
abbrev main_v43 : Ref sig .tc := ⟨.hbm, 132, rfl⟩
abbrev main_v44 : Ref sig .tc := ⟨.hbm, 133, rfl⟩
abbrev main_v45 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg7_0 : Ref sig .tc := ⟨.vmem, 45, rfl⟩
abbrev cc2_stg7_1 : Ref sig .tc := ⟨.vmem, 46, rfl⟩
abbrev cc2_stg8_0 : Ref sig .tc := ⟨.vmem, 47, rfl⟩
abbrev cc2_stg8_1 : Ref sig .tc := ⟨.vmem, 48, rfl⟩
abbrev cc2_stg9_0 : Ref sig .tc := ⟨.vmem, 49, rfl⟩
abbrev cc2_stg9_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem7_0 : DmaSem sig := 45
abbrev cc2_sem7_1 : DmaSem sig := 46
abbrev cc2_sem8_0 : DmaSem sig := 47
abbrev cc2_sem8_1 : DmaSem sig := 48
abbrev cc2_sem9_0 : DmaSem sig := 49
abbrev cc2_sem9_1 : DmaSem sig := 50

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x8 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![10, 8], ![false, false]⟩

def k1_cond1 (i : grid1.Coords) : BitVec 1 :=
  let arg1 : BitVec 32 := BitVec.ofNat 32 (i 1).val
  let c0_i32 : BitVec 32 := 0#32
  let v35 : BitVec 1 := Scalar.cmpi .eq arg1 c0_i32
  let v36 : BitVec 32 := Scalar.extui v35
  let c0_i32_25 : BitVec 32 := 0#32
  let v37 : BitVec 1 := Scalar.cmpi .ne v36 c0_i32_25
  v37

def k1_cond2 (i : grid1.Coords) : BitVec 1 :=
  let arg1 : BitVec 32 := BitVec.ofNat 32 (i 1).val
  let c0_i32_26 : BitVec 32 := 0#32
  let v38 : BitVec 1 := Scalar.cmpi .sgt arg1 c0_i32_26
  let v39 : BitVec 32 := Scalar.extui v38
  let c0_i32_27 : BitVec 32 := 0#32
  let v40 : BitVec 1 := Scalar.cmpi .ne v39 c0_i32_27
  v40

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1000x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1000x8 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x1000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1000x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1000x8 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1000x8 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1000x8 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S8x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1000x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1000x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]
-- ==== ReferenceIdeal.lean ====
abbrev S10000x256 : Shape := ⟨2, ![10000, 256]⟩
abbrev S2x160000 : Shape := ⟨2, ![2, 160000]⟩
abbrev S256x8 : Shape := ⟨2, ![256, 8]⟩
abbrev S8 : Shape := ⟨1, ![8]⟩
abbrev S8x256x256 : Shape := ⟨3, ![8, 256, 256]⟩
abbrev S8x256 : Shape := ⟨2, ![8, 256]⟩
abbrev S10000x8 : Shape := ⟨2, ![10000, 8]⟩
abbrev S1x8 : Shape := ⟨2, ![1, 8]⟩
abbrev S_ : Shape := ⟨0, ![]⟩
abbrev S10000 : Shape := ⟨1, ![10000]⟩
abbrev S10000x1 : Shape := ⟨2, ![10000, 1]⟩
abbrev S10000x2 : Shape := ⟨2, ![10000, 2]⟩
abbrev S1x160000 : Shape := ⟨2, ![1, 160000]⟩
abbrev S160000 : Shape := ⟨1, ![160000]⟩
abbrev S160000x1 : Shape := ⟨2, ![160000, 1]⟩
abbrev S1 : Shape := ⟨1, ![1]⟩
abbrev S1x1 : Shape := ⟨2, ![1, 1]⟩
abbrev S160000x256 : Shape := ⟨2, ![160000, 256]⟩
abbrev S10000x8x256 : Shape := ⟨3, ![10000, 8, 256]⟩
abbrev S8x1x256 : Shape := ⟨3, ![8, 1, 256]⟩
abbrev S8x10000x256 : Shape := ⟨3, ![8, 10000, 256]⟩
abbrev S8x160000x256 : Shape := ⟨3, ![8, 160000, 256]⟩
abbrev S1x10000x1 : Shape := ⟨3, ![1, 10000, 1]⟩
abbrev S10000x2x1 : Shape := ⟨3, ![10000, 2, 1]⟩
abbrev S1x1x1 : Shape := ⟨3, ![1, 1, 1]⟩
abbrev S10000x2x256 : Shape := ⟨3, ![10000, 2, 256]⟩

abbrev nBuf : Space → Nat
  | .hbm => 167
  | .vmem => 0
  | .smem => 0
  | _ => 0

abbrev hbmTy0_0 (i : Nat) : BufTy := match i % 128 with
  | 0 => ⟨S10000x256, .f32⟩
  | 1 => ⟨S2x160000, .i32⟩
  | 2 => ⟨S256x8, .f32⟩
  | 3 => ⟨S8, .f32⟩
  | 4 => ⟨S8x256x256, .f32⟩
  | 5 => ⟨S8x256, .f32⟩
  | 6 => ⟨S8x256x256, .f32⟩
  | 7 => ⟨S8x256x256, .f32⟩
  | 8 => ⟨S8x256, .f32⟩
  | 9 => ⟨S8x256x256, .f32⟩
  | 10 => ⟨S10000x8, .f32⟩
  | 11 => ⟨S1x8, .f32⟩
  | 12 => ⟨S10000x8, .f32⟩
  | 13 => ⟨S10000x8, .f32⟩
  | 14 => ⟨S_, .f32⟩
  | 15 => ⟨S10000, .f32⟩
  | 16 => ⟨S_, .f32⟩
  | 17 => ⟨S10000, .f32⟩
  | 18 => ⟨S10000, .f32⟩
  | 19 => ⟨S10000x1, .f32⟩
  | 20 => ⟨S10000x8, .f32⟩
  | 21 => ⟨S10000x8, .f32⟩
  | 22 => ⟨S10000x8, .f32⟩
  | 23 => ⟨S_, .f32⟩
  | 24 => ⟨S10000, .f32⟩
  | 25 => ⟨S10000x1, .f32⟩
  | 26 => ⟨S10000x8, .f32⟩
  | 27 => ⟨S10000x8, .f32⟩
  | 28 => ⟨S10000x2, .f32⟩
  | 29 => ⟨S10000x2, .i32⟩
  | 30 => ⟨S1x160000, .i32⟩
  | 31 => ⟨S160000, .i32⟩
  | 32 => ⟨S1x160000, .i32⟩
  | 33 => ⟨S160000, .i32⟩
  | 34 => ⟨S_, .i32⟩
  | 35 => ⟨S160000, .i32⟩
  | 36 => ⟨S160000, .i1⟩
  | 37 => ⟨S_, .i32⟩
  | 38 => ⟨S160000, .i32⟩
  | 39 => ⟨S160000, .i32⟩
  | 40 => ⟨S160000, .i32⟩
  | 41 => ⟨S160000x1, .i32⟩
  | 42 => ⟨S1, .i32⟩
  | 43 => ⟨S_, .i32⟩
  | 44 => ⟨S160000x1, .i32⟩
  | 45 => ⟨S160000x1, .i1⟩
  | 46 => ⟨S1x1, .i32⟩
  | 47 => ⟨S160000x1, .i32⟩
  | 48 => ⟨S160000x1, .i1⟩
  | 49 => ⟨S160000x1, .i1⟩
  | 50 => ⟨S_, .i1⟩
  | 51 => ⟨S160000, .i1⟩
  | 52 => ⟨S160000x256, .f32⟩
  | 53 => ⟨S160000x256, .i1⟩
  | 54 => ⟨S_, .f32⟩
  | 55 => ⟨S160000x256, .f32⟩
  | 56 => ⟨S160000x256, .f32⟩
  | 57 => ⟨S_, .f32⟩
  | 58 => ⟨S10000x256, .f32⟩
  | 59 => ⟨S160000x1, .i32⟩
  | 60 => ⟨S10000x256, .f32⟩
  | 61 => ⟨S_, .f32⟩
  | 62 => ⟨S160000, .f32⟩
  | 63 => ⟨S_, .f32⟩
  | 64 => ⟨S10000, .f32⟩
  | 65 => ⟨S160000x1, .i32⟩
  | 66 => ⟨S10000, .f32⟩
  | 67 => ⟨S_, .f32⟩
  | 68 => ⟨S10000, .f32⟩
  | 69 => ⟨S10000, .f32⟩
  | 70 => ⟨S10000x1, .f32⟩
  | 71 => ⟨S10000x256, .f32⟩
  | 72 => ⟨S10000x256, .f32⟩
  | 73 => ⟨S10000x8x256, .f32⟩
  | 74 => ⟨S8x1x256, .f32⟩
  | 75 => ⟨S8x10000x256, .f32⟩
  | 76 => ⟨S8x10000x256, .f32⟩
  | 77 => ⟨S8x10000x256, .f32⟩
  | 78 => ⟨S10000x8x256, .f32⟩
  | 79 => ⟨S8x10000x256, .f32⟩
  | 80 => ⟨S8x10000x256, .f32⟩
  | 81 => ⟨S_, .f32⟩
  | 82 => ⟨S8x10000x256, .f32⟩
  | 83 => ⟨S8x10000x256, .f32⟩
  | 84 => ⟨S1x160000, .i32⟩
  | 85 => ⟨S160000, .i32⟩
  | 86 => ⟨S1x160000, .i32⟩
  | 87 => ⟨S160000, .i32⟩
  | 88 => ⟨S_, .i32⟩
  | 89 => ⟨S160000, .i32⟩
  | 90 => ⟨S160000, .i1⟩
  | 91 => ⟨S_, .i32⟩
  | 92 => ⟨S160000, .i32⟩
  | 93 => ⟨S160000, .i32⟩
  | 94 => ⟨S160000, .i32⟩
  | 95 => ⟨S160000x1, .i32⟩
  | 96 => ⟨S1, .i32⟩
  | 97 => ⟨S_, .i32⟩
  | 98 => ⟨S160000x1, .i32⟩
  | 99 => ⟨S160000x1, .i1⟩
  | 100 => ⟨S1x1, .i32⟩
  | 101 => ⟨S160000x1, .i32⟩
  | 102 => ⟨S160000x1, .i1⟩
  | 103 => ⟨S160000x1, .i1⟩
  | 104 => ⟨S_, .i1⟩
  | 105 => ⟨S160000, .i1⟩
  | 106 => ⟨S8x160000x256, .f32⟩
  | 107 => ⟨S8x160000x256, .i1⟩
  | 108 => ⟨S_, .f32⟩
  | 109 => ⟨S8x160000x256, .f32⟩
  | 110 => ⟨S8x160000x256, .f32⟩
  | 111 => ⟨S_, .f32⟩
  | 112 => ⟨S10000x256, .f32⟩
  | 113 => ⟨S160000x1, .i32⟩
  | 114 => ⟨S8x10000x256, .f32⟩
  | 115 => ⟨S8x10000x256, .f32⟩
  | 116 => ⟨S_, .f32⟩
  | 117 => ⟨S160000, .f32⟩
  | 118 => ⟨S_, .f32⟩
  | 119 => ⟨S10000, .f32⟩
  | 120 => ⟨S160000x1, .i32⟩
  | 121 => ⟨S10000, .f32⟩
  | 122 => ⟨S_, .f32⟩
  | 123 => ⟨S10000, .f32⟩
  | 124 => ⟨S10000, .f32⟩
  | 125 => ⟨S10000x1, .f32⟩
  | 126 => ⟨S1x10000x1, .f32⟩
  | 127 => ⟨S8x10000x256, .f32⟩
  | _ => ⟨S10000x256, .f32⟩

abbrev hbmTy0_1 (i : Nat) : BufTy := match i % 128 with
  | 0 => ⟨S8x10000x256, .f32⟩
  | 1 => ⟨S8x10000x256, .f32⟩
  | 2 => ⟨S8x1x256, .f32⟩
  | 3 => ⟨S8x10000x256, .f32⟩
  | 4 => ⟨S8x10000x256, .f32⟩
  | 5 => ⟨S8x10000x256, .f32⟩
  | 6 => ⟨S8x10000x256, .f32⟩
  | 7 => ⟨S_, .f32⟩
  | 8 => ⟨S8x10000x256, .f32⟩
  | 9 => ⟨S8x10000x256, .f32⟩
  | 10 => ⟨S10000x8x256, .f32⟩
  | 11 => ⟨S10000x2x1, .i32⟩
  | 12 => ⟨S_, .i32⟩
  | 13 => ⟨S10000x2x1, .i32⟩
  | 14 => ⟨S10000x2x1, .i1⟩
  | 15 => ⟨S_, .i32⟩
  | 16 => ⟨S10000x2x1, .i32⟩
  | 17 => ⟨S10000x2x1, .i32⟩
  | 18 => ⟨S10000x2x1, .i32⟩
  | 19 => ⟨S1, .i32⟩
  | 20 => ⟨S_, .i32⟩
  | 21 => ⟨S10000x2x1, .i32⟩
  | 22 => ⟨S10000x2x1, .i1⟩
  | 23 => ⟨S1x1x1, .i32⟩
  | 24 => ⟨S10000x2x1, .i32⟩
  | 25 => ⟨S10000x2x1, .i1⟩
  | 26 => ⟨S10000x2x1, .i1⟩
  | 27 => ⟨S_, .i1⟩
  | 28 => ⟨S10000x2, .i1⟩
  | 29 => ⟨S10000x2x256, .f32⟩
  | 30 => ⟨S10000x2x256, .i1⟩
  | 31 => ⟨S_, .f32⟩
  | 32 => ⟨S10000x2x256, .f32⟩
  | 33 => ⟨S10000x2x256, .f32⟩
  | 34 => ⟨S10000x2x1, .f32⟩
  | 35 => ⟨S10000x2x256, .f32⟩
  | 36 => ⟨S10000x2x256, .f32⟩
  | 37 => ⟨S_, .f32⟩
  | 38 => ⟨S10000x256, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_values : Ref sig .tc := ⟨.hbm, 28, rfl⟩
abbrev main_indices : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_call0_cst : Ref sig .tc := ⟨.hbm, 54, rfl⟩
abbrev main_call0_v15 : Ref sig .tc := ⟨.hbm, 55, rfl⟩
abbrev main_v19 : Ref sig .tc := ⟨.hbm, 56, rfl⟩
abbrev main_cst_2 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_cst_3 : Ref sig .tc := ⟨.hbm, 61, rfl⟩
abbrev main_v23 : Ref sig .tc := ⟨.hbm, 62, rfl⟩
abbrev main_cst_4 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_cst_5 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_call1_cst : Ref sig .tc := ⟨.hbm, 81, rfl⟩
abbrev main_call1_v0 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_call2_c : Ref sig .tc := ⟨.hbm, 88, rfl⟩
abbrev main_call2_v0 : Ref sig .tc := ⟨.hbm, 89, rfl⟩
abbrev main_call2_v1 : Ref sig .tc := ⟨.hbm, 90, rfl⟩
abbrev main_call2_c_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_c_1 : Ref sig .tc := ⟨.hbm, 96, rfl⟩
abbrev main_call2_c_2 : Ref sig .tc := ⟨.hbm, 97, rfl⟩
abbrev main_call2_v6 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_c_3 : Ref sig .tc := ⟨.hbm, 104, rfl⟩
abbrev main_call2_v12 : Ref sig .tc := ⟨.hbm, 105, rfl⟩
abbrev main_call2_v13 : Ref sig .tc := ⟨.hbm, 106, rfl⟩
abbrev main_call2_v14 : Ref sig .tc := ⟨.hbm, 107, rfl⟩
abbrev main_call2_cst : Ref sig .tc := ⟨.hbm, 108, rfl⟩
abbrev main_call2_v15 : Ref sig .tc := ⟨.hbm, 109, rfl⟩
abbrev main_v45 : Ref sig .tc := ⟨.hbm, 110, rfl⟩
abbrev main_cst_6 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_cst_7 : Ref sig .tc := ⟨.hbm, 116, rfl⟩
abbrev main_v50 : Ref sig .tc := ⟨.hbm, 117, rfl⟩
abbrev main_cst_8 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_cst_9 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_call3_cst : Ref sig .tc := ⟨.hbm, 135, rfl⟩
abbrev main_call3_v0 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_call4_c : Ref sig .tc := ⟨.hbm, 140, rfl⟩
abbrev main_call4_v0 : Ref sig .tc := ⟨.hbm, 141, rfl⟩
abbrev main_call4_v1 : Ref sig .tc := ⟨.hbm, 142, rfl⟩
abbrev main_call4_c_0 : Ref sig .tc := ⟨.hbm, 143, rfl⟩
abbrev main_call4_v2 : Ref sig .tc := ⟨.hbm, 144, rfl⟩
abbrev main_call4_v3 : Ref sig .tc := ⟨.hbm, 145, rfl⟩
abbrev main_call4_v4 : Ref sig .tc := ⟨.hbm, 146, rfl⟩
abbrev main_call4_c_1 : Ref sig .tc := ⟨.hbm, 147, rfl⟩
abbrev main_call4_c_2 : Ref sig .tc := ⟨.hbm, 148, rfl⟩
abbrev main_call4_v5 : Ref sig .tc := ⟨.hbm, 149, rfl⟩
abbrev main_call4_v6 : Ref sig .tc := ⟨.hbm, 150, rfl⟩
abbrev main_call4_v7 : Ref sig .tc := ⟨.hbm, 151, rfl⟩
abbrev main_call4_v8 : Ref sig .tc := ⟨.hbm, 152, rfl⟩
abbrev main_call4_v9 : Ref sig .tc := ⟨.hbm, 153, rfl⟩
abbrev main_call4_v10 : Ref sig .tc := ⟨.hbm, 154, rfl⟩
abbrev main_call4_c_3 : Ref sig .tc := ⟨.hbm, 155, rfl⟩
abbrev main_call4_v11 : Ref sig .tc := ⟨.hbm, 156, rfl⟩
abbrev main_call4_v12 : Ref sig .tc := ⟨.hbm, 157, rfl⟩
abbrev main_call4_v13 : Ref sig .tc := ⟨.hbm, 158, rfl⟩
abbrev main_call4_cst : Ref sig .tc := ⟨.hbm, 159, rfl⟩
abbrev main_call4_v14 : Ref sig .tc := ⟨.hbm, 160, rfl⟩
abbrev main_v69 : Ref sig .tc := ⟨.hbm, 161, rfl⟩
abbrev main_v70 : Ref sig .tc := ⟨.hbm, 162, rfl⟩
abbrev main_v71 : Ref sig .tc := ⟨.hbm, 163, rfl⟩
abbrev main_v72 : Ref sig .tc := ⟨.hbm, 164, rfl⟩
abbrev main_cst_10 : Ref sig .tc := ⟨.hbm, 165, rfl⟩
abbrev main_v73 : Ref sig .tc := ⟨.hbm, 166, rfl⟩

abbrev nD : Nat := 1
abbrev τ : Topo := Topo.v7x

variable {F : FTy → Type} [FloatOps F]
-- ==== Proof.Whole.lean ====
module

public import Idealize.ShloMosaic.Lib.Pipeline.FrameBody
public import Idealize.ShloMosaic.Lib.Pipeline.ValueKit.Basic

@[expose] public section

noncomputable section

/-! The buffers here are loaded and stored whole: such a load reads the contents, such a store leaves its payload. -/

namespace Cert.Proof

open Idealize.ShloMosaic

/-- After a store of the whole buffer, on top of whatever was there, the buffer reads as the stored value. -/
theorem read_whole {sig : RefSig} {κ : Kind} {sp : Space} {S : Shape} {e : EltTy} {Val : EltTy → Type} [∀ e, Nonempty (Val e)]
    (v : View sig κ sp S e) (f : v.ty.Contents Val) {off : Fin S.rank → Nat} (inb : ∀ a, off a + S.size a ≤ S.size a)
    (w w' : S.Idx → Val e) (h : ∀ a, off a = 0) (hw : w = w') :
    v.read Val (v.writes Val f [(⟨Rect.unit off S.size inb, w⟩ : View.Piece Val S e)]) = w' := by
  rw [View.read_writes_eq_canon, View.canon_cons_unit_lit inb w [] h, hw]
  intro y
  refine ⟨_, List.mem_singleton.mpr rfl, ?_⟩
  refine (Rect.mem_set_unit (off := off) (size := S.size) (inb := inb)).mpr fun a => ?_
  exact ⟨by rw [h a]; exact Nat.zero_le _, by rw [h a, Nat.zero_add]; exact (y a).isLt⟩

end Cert.Proof

end
-- ==== Proof.Gate.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit.Basic
public import Idealize.ShloMosaic.Lib.Ring
public import Idealize.ShloMosaic.Lib.Tactic
public import Idealize.ShloMosaic.Lib.WordCmp
public import proofs.«01_k».proof.Proof.Whole

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The first call: gate weights, and each row's first and second choice of expert. -/

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, cut out of the array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rect0_S1000x256 : Rect S1000x256 := Rect.unit (s := S1000x256) ![0, 0] S1000x256.size inb_S1000x256_S1000x256_0_0
abbrev rect0_S256x8 : Rect S256x8 := Rect.unit (s := S256x8) ![0, 0] S256x8.size inb_S256x8_S256x8_0_0
abbrev rect0_S8 : Rect S8 := Rect.unit (s := S8) ![0] S8.size inb_S8_S8_0

/-- The gate weights of a block of rows. -/
def out0_3 (x0 : Vec F S1000x256 .f32) (x1 : Vec F S256x8 .f32) (x2 : Vec F S8 .f32) : Vec F S1000x8 .f32 :=
  k0_pay3 x0 x1 x2

/-- The indicator of the first choice. -/
def out0_4 (x0 : Vec F S1000x256 .f32) (x1 : Vec F S256x8 .f32) (x2 : Vec F S8 .f32) : Vec F S1000x8 .f32 :=
  k0_pay5 x0 x1 x2

/-- The indicator of the second choice. -/
def out0_5 (x0 : Vec F S1000x256 .f32) (x1 : Vec F S256x8 .f32) (x2 : Vec F S8 .f32) : Vec F S1000x8 .f32 :=
  k0_pay1 (F := F) (k0_pay7 x0 x1 x2)

/-- The two choices in columns 0 and 1. -/
def out0_6 (x0 : Vec F S1000x256 .f32) (x1 : Vec F S256x8 .f32) (x2 : Vec F S8 .f32) : Vec F S1000x8 .i32 :=
  k0_pay2 (iota .tc S1000x8 32 [1] iota_S1000x8_d1_w32) (k0_pay4 x0 x1 x2) (k0_pay6 x0 x1 x2)

theorem out0_3_ld (x0 : Vec F S1000x256 .f32) (x1 : Vec F S256x8 .f32) (x2 : Vec F S8 .f32) :
    k0_pay3 (View.ld x0 rect0_S1000x256) (View.ld x1 rect0_S256x8) (View.ld x2 rect0_S8) = out0_3 x0 x1 x2 := by
  unfold out0_3; rw [View.ld_unit_lit _ x0 (by decide), View.ld_unit_lit _ x1 (by decide), View.ld_unit_lit _ x2 (by decide)]

theorem out0_4_ld (x0 : Vec F S1000x256 .f32) (x1 : Vec F S256x8 .f32) (x2 : Vec F S8 .f32) :
    k0_pay5 (View.ld x0 rect0_S1000x256) (View.ld x1 rect0_S256x8) (View.ld x2 rect0_S8) = out0_4 x0 x1 x2 := by
  unfold out0_4; rw [View.ld_unit_lit _ x0 (by decide), View.ld_unit_lit _ x1 (by decide), View.ld_unit_lit _ x2 (by decide)]

theorem out0_5_ld (x0 : Vec F S1000x256 .f32) (x1 : Vec F S256x8 .f32) (x2 : Vec F S8 .f32) :
    k0_pay1 (F := F) (k0_pay7 (View.ld x0 rect0_S1000x256) (View.ld x1 rect0_S256x8) (View.ld x2 rect0_S8)) = out0_5 x0 x1 x2 := by
  unfold out0_5; rw [View.ld_unit_lit _ x0 (by decide), View.ld_unit_lit _ x1 (by decide), View.ld_unit_lit _ x2 (by decide)]

theorem out0_6_ld (x0 : Vec F S1000x256 .f32) (x1 : Vec F S256x8 .f32) (x2 : Vec F S8 .f32) :
    k0_pay2 (iota .tc S1000x8 32 [1] iota_S1000x8_d1_w32) (k0_pay4 (View.ld x0 rect0_S1000x256) (View.ld x1 rect0_S256x8) (View.ld x2 rect0_S8)) (k0_pay6 (View.ld x0 rect0_S1000x256) (View.ld x1 rect0_S256x8) (View.ld x2 rect0_S8)) = out0_6 x0 x1 x2 := by
  unfold out0_6; rw [View.ld_unit_lit _ x0 (by decide), View.ld_unit_lit _ x1 (by decide), View.ld_unit_lit _ x2 (by decide)]

set_option maxHeartbeats 1000000 in
/-- The body at any point: it keeps its inputs and leaves each output as above, whatever the outputs held. -/
theorem body0 (c : Dev nD) (E : Set ℕ) (i : grid0.Coords) (arg1 : Memref sig .tc .vmem S1000x256 .f32) (harg1 : arg1.IsWhole) (arg2 : Memref sig .tc .vmem S256x8 .f32) (harg2 : arg2.IsWhole) (arg3 : Memref sig .tc .vmem S8 .f32) (harg3 : arg3.IsWhole) (arg4 : Memref sig .tc .vmem S1000x8 .f32) (harg4 : arg4.IsWhole) (arg5 : Memref sig .tc .vmem S1000x8 .f32) (harg5 : arg5.IsWhole) (arg6 : Memref sig .tc .vmem S1000x8 .f32) (harg6 : arg6.IsWhole) (arg7 : Memref sig .tc .vmem S1000x8 .i32) (harg7 : arg7.IsWhole)
    (x0 : Vec F S1000x256 .f32) (x1 : Vec F S256x8 .f32) (x2 : Vec F S8 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2) ∗ owns (c : Thread nD τ) arg6 fullShare (out0_5 x0 x1 x2) ∗ owns (c : Thread nD τ) arg7 fullShare (out0_6 x0 x1 x2)) -∗ K ⟨⟩))
      ⊢ wp frame (wpE (defs₀ (F := F)) Variants.none c none) E (cc0__gate_body i arg1 harg1 arg2 harg2 arg3 harg3 arg4 harg4 arg5 harg5 arg6 harg6 arg7 harg7) K := by
  simp only [cc0__gate_body_eq_skeleton]; unfold cc0__gate_body_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact read_whole _ _ _ _ _ (by decide) (out0_3_ld _ _ _ )
  isplitl [H4]
  · iexists _; isplitr
    swap; · iexact H4
    ipureintro
    exact read_whole _ _ _ _ _ (by decide) (out0_4_ld _ _ _ )
  isplitl [H5]
  · iexists _; isplitr
    swap; · iexact H5
    ipureintro
    exact read_whole _ _ _ _ _ (by decide) (out0_5_ld _ _ _ )
  iexists _; isplitr
  swap; · iexact H6
  ipureintro
  exact read_whole _ _ _ _ _ (by decide) (out0_6_ld _ _ _ )

/-- The proof data of the call: arrays as found, inputs' buffers at their blocks, outputs' as the body leaves them. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => out0_3 (blk0 V c 0 t) (blk0 V c 1 t) (blk0 V c 2 t)
    | ⟨4, _⟩ => out0_4 (blk0 V c 0 t) (blk0 V c 1 t) (blk0 V c 2 t)
    | ⟨5, _⟩ => out0_5 (blk0 V c 0 t) (blk0 V c 1 t) (blk0 V c 2 t)
    | ⟨6, _⟩ => out0_6 (blk0 V c 0 t) (blk0 V c 1 t) (blk0 V c 2 t)
  Φ _ := Pipeline.ΦA spec0 c
  q _ := fullShare
  owed _ := 0

theorem arr0 (c : Dev nD) (w : Fin cfg0.W) : (dat0 V c).A w = V c (Pipeline.arrRef spec0 w) := by dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = out0_3 (blk0 V c 0 t) (blk0 V c 1 t) (blk0 V c 2 t) := by dsimp only [dat0]
theorem after0_4 (c : Dev nD) (t : Fin cfg0.N) : (dat0 V c).after 4 t = out0_4 (blk0 V c 0 t) (blk0 V c 1 t) (blk0 V c 2 t) := by dsimp only [dat0]
theorem after0_5 (c : Dev nD) (t : Fin cfg0.N) : (dat0 V c).after 5 t = out0_5 (blk0 V c 0 t) (blk0 V c 1 t) (blk0 V c 2 t) := by dsimp only [dat0]
theorem after0_6 (c : Dev nD) (t : Fin cfg0.N) : (dat0 V c).after 6 t = out0_6 (blk0 V c 0 t) (blk0 V c 1 t) (blk0 V c 2 t) := by dsimp only [dat0]

/-! An input's buffer holds its block whenever the body runs, fetched at this point or kept from an earlier one. -/

theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [arr0]) t d).trans (by unfold Dat.fetched Dat.blockOf blk0; rw [arr0]; try rfl)
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [arr0]) t d).trans (by unfold Dat.fetched Dat.blockOf blk0; rw [arr0]; try rfl)
theorem before0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rw [arr0]) t d).trans (by unfold Dat.fetched Dat.blockOf blk0; rw [arr0]; try rfl)

/-- The call's own statement of the body at point `t`: before, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d)) ∗ (∃ d, owns (c : Thread nD τ) (st0_1 t) fullShare ((dat0 V c).before 1 t d)) ∗ (∃ d, owns (c : Thread nD τ) (st0_2 t) fullShare ((dat0 V c).before 2 t d)) ∗ (∃ d, owns (c : Thread nD τ) (st0_3 t) fullShare ((dat0 V c).before 3 t d)) ∗ (∃ d, owns (c : Thread nD τ) (st0_4 t) fullShare ((dat0 V c).before 4 t d)) ∗ (∃ d, owns (c : Thread nD τ) (st0_5 t) fullShare ((dat0 V c).before 5 t d)) ∗ (∃ d, owns (c : Thread nD τ) (st0_6 t) fullShare ((dat0 V c).before 6 t d)))

/-- and after. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t) ∗ owns (c : Thread nD τ) (st0_1 t) fullShare ((dat0 V c).after 1 t) ∗ owns (c : Thread nD τ) (st0_2 t) fullShare ((dat0 V c).after 2 t) ∗ owns (c : Thread nD τ) (st0_3 t) fullShare ((dat0 V c).after 3 t) ∗ owns (c : Thread nD τ) (st0_4 t) fullShare ((dat0 V c).after 4 t) ∗ owns (c : Thread nD τ) (st0_5 t) fullShare ((dat0 V c).after 5 t) ∗ owns (c : Thread nD τ) (st0_6 t) fullShare ((dat0 V c).after 6 t))

theorem point0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body0 c Set.univ (grid0.coords t) _ _ _ _ _ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row0 (t : Fin cfg0.N) : defs₀ (F := F) .tc cfg0.body (cfg0.bodyArgs t (cfg0.slots t)) = bodyAt0 t := by
  unfold defs₀; rw [Defs.onTc_tc]

/-- What the launch asks of the call's body, at every point. -/
theorem obligation0 (c : Dev nD) : BodyObligation (dat0 (F := F) V c) (defs₀ (F := F)) Variants.none () Set.univ := fun t => by
  rw [bigSep_W0, bigSep_W0, row0]
  exact triple_restated (point0 V c t) rfl .rfl fun _ => .rfl

end Cert.Proof

end
-- ==== Proof.Experts.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit.Basic
public import Idealize.ShloMosaic.Lib.Ring
public import Idealize.ShloMosaic.Lib.Tactic
public import Idealize.ShloMosaic.Lib.WordCmp
public import Idealize.ShloMosaic.Lib.Pipeline.TableIdle
public import proofs.«01_k».proof.Proof.Whole

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The second call: at block `r` of rows and expert `e`, the hidden layer and its two products; the second product is added
   over the experts, weighted by the two indicators. -/

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, cut out of the array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rect1_S1000x512 : Rect S1000x512 := Rect.unit (s := S1000x512) ![0, 0] S1000x512.size inb_S1000x512_S1000x512_0_0
abbrev rect1_S1x512x256 : Rect S1x512x256 := Rect.unit (s := S1x512x256) ![0, 0, 0] S1x512x256.size inb_S1x512x256_S1x512x256_0_0_0
abbrev rect1_S1x1x256 : Rect S1x1x256 := Rect.unit (s := S1x1x256) ![0, 0, 0] S1x1x256.size inb_S1x1x256_S1x1x256_0_0_0
abbrev rect1_S1x256x256 : Rect S1x256x256 := Rect.unit (s := S1x256x256) ![0, 0, 0] S1x256x256.size inb_S1x256x256_S1x256x256_0_0_0
abbrev rect1_S1000x8 : Rect S1000x8 := Rect.unit (s := S1000x8) ![0, 0] S1000x8.size inb_S1000x8_S1000x8_0_0
abbrev rect1_S1x1000x256 : Rect S1x1000x256 := Rect.unit (s := S1x1000x256) ![0, 0, 0] S1x1000x256.size inb_S1x1000x256_S1x1000x256_0_0_0
abbrev rect1_S1000x256 : Rect S1000x256 := Rect.unit (s := S1000x256) ![0, 0] S1000x256.size inb_S1000x256_S1000x256_0_0

/-- The hidden layer times the second layer's neighbour weights. -/
def out1_7 (i : grid1.Coords) (x0 : Vec F S1000x512 .f32) (x1 : Vec F S1x512x256 .f32) (x2 : Vec F S1x1x256 .f32) (x3 : Vec F S1x256x256 .f32) : Vec F S1x1000x256 .f32 :=
  k1_pay7 x0 x1 x2 x3

theorem out1_7_ld (i : grid1.Coords) (x0 : Vec F S1000x512 .f32) (x1 : Vec F S1x512x256 .f32) (x2 : Vec F S1x1x256 .f32) (x3 : Vec F S1x256x256 .f32) :
    k1_pay7 (View.ld x0 rect1_S1000x512) (View.ld x1 rect1_S1x512x256) (View.ld x2 rect1_S1x1x256) (View.ld x3 rect1_S1x256x256) = out1_7 i x0 x1 x2 x3 := by
  unfold out1_7; rw [View.ld_unit_lit _ x0 (by decide), View.ld_unit_lit _ x1 (by decide), View.ld_unit_lit _ x2 (by decide), View.ld_unit_lit _ x3 (by decide)]

/-- What the first expert's point leaves in the first running sum. -/
def first8 (i : grid1.Coords) (x0 : Vec F S1000x512 .f32) (x1 : Vec F S1x512x256 .f32) (x2 : Vec F S1x1x256 .f32) (x4 : Vec F S1x256x256 .f32) (y : Vec F S1000x8 .f32) : Vec F S1000x256 .f32 :=
  k1_pay2 (k1_pay8 x0 x1 x2 x4) (k1_pay10 i y)

theorem first8_ld (i : grid1.Coords) (x0 : Vec F S1000x512 .f32) (x1 : Vec F S1x512x256 .f32) (x2 : Vec F S1x1x256 .f32) (x4 : Vec F S1x256x256 .f32) (y : Vec F S1000x8 .f32) :
    k1_pay2 (k1_pay8 (View.ld x0 rect1_S1000x512) (View.ld x1 rect1_S1x512x256) (View.ld x2 rect1_S1x1x256) (View.ld x4 rect1_S1x256x256)) (k1_pay10 i (View.ld y rect1_S1000x8)) = first8 i x0 x1 x2 x4 y := by
  unfold first8; rw [View.ld_unit_lit _ x0 (by decide), View.ld_unit_lit _ x1 (by decide), View.ld_unit_lit _ x2 (by decide), View.ld_unit_lit _ x4 (by decide), View.ld_unit_lit _ y (by decide)]

/-- What the first expert's point leaves in the second running sum. -/
def first9 (i : grid1.Coords) (x0 : Vec F S1000x512 .f32) (x1 : Vec F S1x512x256 .f32) (x2 : Vec F S1x1x256 .f32) (x4 : Vec F S1x256x256 .f32) (y : Vec F S1000x8 .f32) : Vec F S1000x256 .f32 :=
  k1_pay3 (k1_pay8 x0 x1 x2 x4) (k1_pay9 (F := F) i) y

theorem first9_ld (i : grid1.Coords) (x0 : Vec F S1000x512 .f32) (x1 : Vec F S1x512x256 .f32) (x2 : Vec F S1x1x256 .f32) (x4 : Vec F S1x256x256 .f32) (y : Vec F S1000x8 .f32) :
    k1_pay3 (k1_pay8 (View.ld x0 rect1_S1000x512) (View.ld x1 rect1_S1x512x256) (View.ld x2 rect1_S1x1x256) (View.ld x4 rect1_S1x256x256)) (k1_pay9 (F := F) i) (View.ld y rect1_S1000x8) = first9 i x0 x1 x2 x4 y := by
  unfold first9; rw [View.ld_unit_lit _ x0 (by decide), View.ld_unit_lit _ x1 (by decide), View.ld_unit_lit _ x2 (by decide), View.ld_unit_lit _ x4 (by decide), View.ld_unit_lit _ y (by decide)]

/-- What a later expert's point makes of the first running sum. -/
def next8 (i : grid1.Coords) (x0 : Vec F S1000x512 .f32) (x1 : Vec F S1x512x256 .f32) (x2 : Vec F S1x1x256 .f32) (x4 : Vec F S1x256x256 .f32) (y : Vec F S1000x8 .f32) (z : Vec F S1000x256 .f32) : Vec F S1000x256 .f32 :=
  k1_pay4 (k1_pay8 x0 x1 x2 x4) (k1_pay10 i y) z

theorem next8_ld (i : grid1.Coords) (x0 : Vec F S1000x512 .f32) (x1 : Vec F S1x512x256 .f32) (x2 : Vec F S1x1x256 .f32) (x4 : Vec F S1x256x256 .f32) (y : Vec F S1000x8 .f32) (z : Vec F S1000x256 .f32) :
    k1_pay4 (k1_pay8 (View.ld x0 rect1_S1000x512) (View.ld x1 rect1_S1x512x256) (View.ld x2 rect1_S1x1x256) (View.ld x4 rect1_S1x256x256)) (k1_pay10 i (View.ld y rect1_S1000x8)) (View.ld z rect1_S1000x256) = next8 i x0 x1 x2 x4 y z := by
  unfold next8; rw [View.ld_unit_lit _ x0 (by decide), View.ld_unit_lit _ x1 (by decide), View.ld_unit_lit _ x2 (by decide), View.ld_unit_lit _ x4 (by decide), View.ld_unit_lit _ y (by decide), View.ld_unit_lit _ z (by decide)]

/-- What a later expert's point makes of the second running sum. -/
def next9 (i : grid1.Coords) (x0 : Vec F S1000x512 .f32) (x1 : Vec F S1x512x256 .f32) (x2 : Vec F S1x1x256 .f32) (x4 : Vec F S1x256x256 .f32) (y : Vec F S1000x8 .f32) (z : Vec F S1000x256 .f32) : Vec F S1000x256 .f32 :=
  k1_pay5 (k1_pay8 x0 x1 x2 x4) (k1_pay9 (F := F) i) y z

theorem next9_ld (i : grid1.Coords) (x0 : Vec F S1000x512 .f32) (x1 : Vec F S1x512x256 .f32) (x2 : Vec F S1x1x256 .f32) (x4 : Vec F S1x256x256 .f32) (y : Vec F S1000x8 .f32) (z : Vec F S1000x256 .f32) :
    k1_pay5 (k1_pay8 (View.ld x0 rect1_S1000x512) (View.ld x1 rect1_S1x512x256) (View.ld x2 rect1_S1x1x256) (View.ld x4 rect1_S1x256x256)) (k1_pay9 (F := F) i) (View.ld y rect1_S1000x8) (View.ld z rect1_S1000x256) = next9 i x0 x1 x2 x4 y z := by
  unfold next9; rw [View.ld_unit_lit _ x0 (by decide), View.ld_unit_lit _ x1 (by decide), View.ld_unit_lit _ x2 (by decide), View.ld_unit_lit _ x4 (by decide), View.ld_unit_lit _ y (by decide), View.ld_unit_lit _ z (by decide)]

/-! The two branches: the first expert's points start the sums, the others add to them. -/

theorem starts_iff : ∀ t : Fin cfg1.N, k1_cond1 (grid1.coords t) = 1#1 ↔ t.val % 8 = 0 :=
  (by decide +kernel : ∀ t : Fin grid1.N, k1_cond1 (grid1.coords t) = 1#1 ↔ t.val % 8 = 0)

theorem adds_iff : ∀ t : Fin cfg1.N, k1_cond2 (grid1.coords t) = 1#1 ↔ ¬t.val % 8 = 0 :=
  (by decide +kernel : ∀ t : Fin grid1.N, k1_cond2 (grid1.coords t) = 1#1 ↔ ¬t.val % 8 = 0)

/-- The running sums are written at every point. -/
theorem live8 : ∀ t : Fin cfg1.N, cfg1.idle 8 (grid1.coords t) = false := by decide +kernel
theorem live9 : ∀ t : Fin cfg1.N, cfg1.idle 9 (grid1.coords t) = false := by decide +kernel

/-- A running sum's buffer holds nothing of this block of rows exactly at the first expert's points. -/
def unwritten (n : ℕ) : Bool := n % 8 == 0

theorem unwritten_step8 : ∀ t : Fin cfg1.N,
    unwritten (t.val + 1) = ((cfg1.win 8).flush t || (cfg1.idle 8 (cfg1.grid.coords t) && unwritten t.val)) := by decide +kernel
theorem unwritten_step9 : ∀ t : Fin cfg1.N,
    unwritten (t.val + 1) = ((cfg1.win 9).flush t || (cfg1.idle 9 (cfg1.grid.coords t) && unwritten t.val)) := by decide +kernel
theorem kept8 (t : Fin cfg1.N) (h : ¬t.val % 8 = 0) : ¬cfg1.fresh 8 t.val = true := by
  rw [Pipeline.Cfg.fresh_tab cfg1 8 unwritten rfl unwritten_step8 t.val (Nat.le_of_lt t.isLt), unwritten, beq_iff_eq]; exact h
theorem kept9 (t : Fin cfg1.N) (h : ¬t.val % 8 = 0) : ¬cfg1.fresh 9 t.val = true := by
  rw [Pipeline.Cfg.fresh_tab cfg1 9 unwritten rfl unwritten_step9 t.val (Nat.le_of_lt t.isLt), unwritten, beq_iff_eq]; exact h

set_option maxHeartbeats 2000000 in
/-- At a first expert's point the body starts the two sums. -/
theorem body1A (c : Dev nD) (E : Set ℕ) (i : grid1.Coords) (arg2 : Memref sig .tc .vmem S1000x512 .f32) (harg2 : arg2.IsWhole) (arg3 : Memref sig .tc .vmem S1x512x256 .f32) (harg3 : arg3.IsWhole) (arg4 : Memref sig .tc .vmem S1x1x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1000x8 .f32) (harg7 : arg7.IsWhole) (arg8 : Memref sig .tc .vmem S1000x8 .f32) (harg8 : arg8.IsWhole) (arg9 : Memref sig .tc .vmem S1x1000x256 .f32) (harg9 : arg9.IsWhole) (arg10 : Memref sig .tc .vmem S1000x256 .f32) (harg10 : arg10.IsWhole) (arg11 : Memref sig .tc .vmem S1000x256 .f32) (harg11 : arg11.IsWhole) (hc0 : k1_cond1 i = 1#1) (hc1 : ¬k1_cond2 i = 1#1)
    (x0 : Vec F S1000x512 .f32) (x1 : Vec F S1x512x256 .f32) (x2 : Vec F S1x1x256 .f32) (x3 : Vec F S1x256x256 .f32) (x4 : Vec F S1x256x256 .f32) (x5 : Vec F S1000x8 .f32) (x6 : Vec F S1000x8 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out1_7 i x0 x1 x2 x3) ∗ owns (c : Thread nD τ) arg10 fullShare (first8 i x0 x1 x2 x4 x5) ∗ owns (c : Thread nD τ) arg11 fullShare (first9 i x0 x1 x2 x4 x6)) -∗ K ⟨⟩))
      ⊢ wp frame (wpE (defs₀ (F := F)) Variants.none c none) E (cc1__expert_body i arg2 harg2 arg3 harg3 arg4 harg4 arg5 harg5 arg6 harg6 arg7 harg7 arg8 harg8 arg9 harg9 arg10 harg10 arg11 harg11) K := by
  simp only [cc1__expert_body_eq_skeleton]; unfold cc1__expert_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact read_whole _ _ _ _ _ (by decide) (out1_7_ld i _ _ _ _)
  isplitl [H8]
  · iexists _; isplitr
    swap; · iexact H8
    ipureintro
    exact read_whole _ _ _ _ _ (by decide) (first8_ld i _ _ _ _ _)
  iexists _; isplitr
  swap; · iexact H9
  ipureintro
  exact read_whole _ _ _ _ _ (by decide) (first9_ld i _ _ _ _ _)

set_option maxHeartbeats 2000000 in
/-- At a later expert's point the body adds to the two sums. -/
theorem body1B (c : Dev nD) (E : Set ℕ) (i : grid1.Coords) (arg2 : Memref sig .tc .vmem S1000x512 .f32) (harg2 : arg2.IsWhole) (arg3 : Memref sig .tc .vmem S1x512x256 .f32) (harg3 : arg3.IsWhole) (arg4 : Memref sig .tc .vmem S1x1x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1000x8 .f32) (harg7 : arg7.IsWhole) (arg8 : Memref sig .tc .vmem S1000x8 .f32) (harg8 : arg8.IsWhole) (arg9 : Memref sig .tc .vmem S1x1000x256 .f32) (harg9 : arg9.IsWhole) (arg10 : Memref sig .tc .vmem S1000x256 .f32) (harg10 : arg10.IsWhole) (arg11 : Memref sig .tc .vmem S1000x256 .f32) (harg11 : arg11.IsWhole) (hc0 : ¬k1_cond1 i = 1#1) (hc1 : k1_cond2 i = 1#1)
    (x0 : Vec F S1000x512 .f32) (x1 : Vec F S1x512x256 .f32) (x2 : Vec F S1x1x256 .f32) (x3 : Vec F S1x256x256 .f32) (x4 : Vec F S1x256x256 .f32) (x5 : Vec F S1000x8 .f32) (x6 : Vec F S1000x8 .f32) (z8 z9 : Vec F S1000x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare z8 ∗ owns (c : Thread nD τ) arg11 fullShare z9
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out1_7 i x0 x1 x2 x3) ∗ owns (c : Thread nD τ) arg10 fullShare (next8 i x0 x1 x2 x4 x5 z8) ∗ owns (c : Thread nD τ) arg11 fullShare (next9 i x0 x1 x2 x4 x6 z9)) -∗ K ⟨⟩))
      ⊢ wp frame (wpE (defs₀ (F := F)) Variants.none c none) E (cc1__expert_body i arg2 harg2 arg3 harg3 arg4 harg4 arg5 harg5 arg6 harg6 arg7 harg7 arg8 harg8 arg9 harg9 arg10 harg10 arg11 harg11) K := by
  simp only [cc1__expert_body_eq_skeleton]; unfold cc1__expert_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  subst hf0 hf1 hf2 hf3 hf4 hf5 hf6 hf8 hf9
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact read_whole _ _ _ _ _ (by decide) (out1_7_ld i _ _ _ _)
  isplitl [H8]
  · iexists _; isplitr
    swap; · iexact H8
    ipureintro
    exact read_whole _ _ _ _ _ (by decide) (next8_ld i _ _ _ _ _ _)
  iexists _; isplitr
  swap; · iexact H9
  ipureintro
  exact read_whole _ _ _ _ _ (by decide) (next9_ld i _ _ _ _ _ _)

/-- The two running sums after point `n`. -/
def sums (c : Dev nD) : (n : ℕ) → n < cfg1.N → Vec F S1000x256 .f32 × Vec F S1000x256 .f32
  | 0, h => (first8 (grid1.coords ⟨0, h⟩) (blk1 V c 0 ⟨0, h⟩) (blk1 V c 1 ⟨0, h⟩) (blk1 V c 2 ⟨0, h⟩) (blk1 V c 4 ⟨0, h⟩) (blk1 V c 5 ⟨0, h⟩), first9 (grid1.coords ⟨0, h⟩) (blk1 V c 0 ⟨0, h⟩) (blk1 V c 1 ⟨0, h⟩) (blk1 V c 2 ⟨0, h⟩) (blk1 V c 4 ⟨0, h⟩) (blk1 V c 6 ⟨0, h⟩))
  | n + 1, h =>
    if (n + 1) % 8 = 0 then (first8 (grid1.coords ⟨n + 1, h⟩) (blk1 V c 0 ⟨n + 1, h⟩) (blk1 V c 1 ⟨n + 1, h⟩) (blk1 V c 2 ⟨n + 1, h⟩) (blk1 V c 4 ⟨n + 1, h⟩) (blk1 V c 5 ⟨n + 1, h⟩), first9 (grid1.coords ⟨n + 1, h⟩) (blk1 V c 0 ⟨n + 1, h⟩) (blk1 V c 1 ⟨n + 1, h⟩) (blk1 V c 2 ⟨n + 1, h⟩) (blk1 V c 4 ⟨n + 1, h⟩) (blk1 V c 6 ⟨n + 1, h⟩))
    else (next8 (grid1.coords ⟨n + 1, h⟩) (blk1 V c 0 ⟨n + 1, h⟩) (blk1 V c 1 ⟨n + 1, h⟩) (blk1 V c 2 ⟨n + 1, h⟩) (blk1 V c 4 ⟨n + 1, h⟩) (blk1 V c 5 ⟨n + 1, h⟩) (sums c n (Nat.lt_of_succ_lt h)).1, next9 (grid1.coords ⟨n + 1, h⟩) (blk1 V c 0 ⟨n + 1, h⟩) (blk1 V c 1 ⟨n + 1, h⟩) (blk1 V c 2 ⟨n + 1, h⟩) (blk1 V c 4 ⟨n + 1, h⟩) (blk1 V c 6 ⟨n + 1, h⟩) (sums c n (Nat.lt_of_succ_lt h)).2)

theorem sums_first (c : Dev nD) (t : Fin cfg1.N) (h : t.val % 8 = 0) :
    sums V c t.val t.isLt = (first8 (grid1.coords t) (blk1 V c 0 t) (blk1 V c 1 t) (blk1 V c 2 t) (blk1 V c 4 t) (blk1 V c 5 t), first9 (grid1.coords t) (blk1 V c 0 t) (blk1 V c 1 t) (blk1 V c 2 t) (blk1 V c 4 t) (blk1 V c 6 t)) := by
  obtain ⟨n, hn⟩ := t
  cases n with
  | zero => rfl
  | succ n => exact if_pos h

theorem sums_next (c : Dev nD) (t : Fin cfg1.N) (h : ¬t.val % 8 = 0) :
    sums V c t.val t.isLt = (next8 (grid1.coords t) (blk1 V c 0 t) (blk1 V c 1 t) (blk1 V c 2 t) (blk1 V c 4 t) (blk1 V c 5 t) (sums V c (t.val - 1) (Nat.lt_of_le_of_lt (Nat.sub_le _ _) t.isLt)).1, next9 (grid1.coords t) (blk1 V c 0 t) (blk1 V c 1 t) (blk1 V c 2 t) (blk1 V c 4 t) (blk1 V c 6 t) (sums V c (t.val - 1) (Nat.lt_of_le_of_lt (Nat.sub_le _ _) t.isLt)).2) := by
  obtain ⟨n, hn⟩ := t
  cases n with
  | zero => exact absurd (Nat.zero_mod 8) h
  | succ n => exact if_neg h

/-- The proof data of the call: arrays as found, inputs' buffers at their blocks, the product and the running sums. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => out1_7 (grid1.coords t) (blk1 V c 0 t) (blk1 V c 1 t) (blk1 V c 2 t) (blk1 V c 3 t)
    | ⟨8, _⟩ => (sums V c t.val t.isLt).1
    | ⟨9, _⟩ => (sums V c t.val t.isLt).2
  Φ _ := Pipeline.ΦA spec1 c
  q _ := fullShare
  owed _ := 0

theorem arr1 (c : Dev nD) (w : Fin cfg1.W) : (dat1 V c).A w = V c (Pipeline.arrRef spec1 w) := by dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = out1_7 (grid1.coords t) (blk1 V c 0 t) (blk1 V c 1 t) (blk1 V c 2 t) (blk1 V c 3 t) := by dsimp only [dat1]
theorem after1_8 (c : Dev nD) (t : Fin cfg1.N) : (dat1 V c).after 8 t = (sums V c t.val t.isLt).1 := by dsimp only [dat1]
theorem after1_9 (c : Dev nD) (t : Fin cfg1.N) : (dat1 V c).after 9 t = (sums V c t.val t.isLt).2 := by dsimp only [dat1]

/-! An input's buffer holds its block whenever the body runs, fetched at this point or kept from an earlier one. -/

theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [arr1]) t d).trans (by unfold Dat.fetched Dat.blockOf blk1; rw [arr1]; try rfl)
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [arr1]) t d).trans (by unfold Dat.fetched Dat.blockOf blk1; rw [arr1]; try rfl)
theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [arr1]) t d).trans (by unfold Dat.fetched Dat.blockOf blk1; rw [arr1]; try rfl)
theorem before1_3 (c : Dev nD) (t : Fin cfg1.N) (d) : (dat1 V c).before 3 t d = blk1 V c 3 t :=
  ((dat1 V c).before_in_eq_fetched 3 rfl (fun _ => rfl) (fun _ _ _ => rfl)
    (fun t => by rw [after1_3]; unfold Dat.blockOf blk1; rw [arr1]) t d).trans (by unfold Dat.fetched Dat.blockOf blk1; rw [arr1]; try rfl)
theorem before1_4 (c : Dev nD) (t : Fin cfg1.N) (d) : (dat1 V c).before 4 t d = blk1 V c 4 t :=
  ((dat1 V c).before_in_eq_fetched 4 rfl (fun _ => rfl) (fun _ _ _ => rfl)
    (fun t => by rw [after1_4]; unfold Dat.blockOf blk1; rw [arr1]) t d).trans (by unfold Dat.fetched Dat.blockOf blk1; rw [arr1]; try rfl)
theorem before1_5 (c : Dev nD) (t : Fin cfg1.N) (d) : (dat1 V c).before 5 t d = blk1 V c 5 t :=
  ((dat1 V c).before_in_eq_fetched 5 rfl (fun _ => rfl) (fun _ _ _ => rfl)
    (fun t => by rw [after1_5]; unfold Dat.blockOf blk1; rw [arr1]) t d).trans (by unfold Dat.fetched Dat.blockOf blk1; rw [arr1]; try rfl)
theorem before1_6 (c : Dev nD) (t : Fin cfg1.N) (d) : (dat1 V c).before 6 t d = blk1 V c 6 t :=
  ((dat1 V c).before_in_eq_fetched 6 rfl (fun _ => rfl) (fun _ _ _ => rfl)
    (fun t => by rw [after1_6]; unfold Dat.blockOf blk1; rw [arr1]) t d).trans (by unfold Dat.fetched Dat.blockOf blk1; rw [arr1]; try rfl)

/-! At a later expert's point a running sum's buffer holds what the point before left in it. -/

theorem before1_8 (c : Dev nD) (t : Fin cfg1.N) (h : ¬t.val % 8 = 0) (d) :
    (dat1 V c).before 8 t d = (sums V c (t.val - 1) (Nat.lt_of_le_of_lt (Nat.sub_le _ _) t.isLt)).1 := by
  rw [Dat.before_out_traj _ 8 rfl (fun _ _ => rfl)
    (fun u _ hi _ => absurd hi (by rw [live8 u]; exact Bool.false_ne_true)) t.val t rfl d, if_neg (kept8 t h)]
  dsimp only [dat1]
theorem before1_9 (c : Dev nD) (t : Fin cfg1.N) (h : ¬t.val % 8 = 0) (d) :
    (dat1 V c).before 9 t d = (sums V c (t.val - 1) (Nat.lt_of_le_of_lt (Nat.sub_le _ _) t.isLt)).2 := by
  rw [Dat.before_out_traj _ 9 rfl (fun _ _ => rfl)
    (fun u _ hi _ => absurd hi (by rw [live9 u]; exact Bool.false_ne_true)) t.val t rfl d, if_neg (kept9 t h)]
  dsimp only [dat1]

/-- The call's own statement of the body at point `t`: before, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d)) ∗ (∃ d, owns (c : Thread nD τ) (st1_1 t) fullShare ((dat1 V c).before 1 t d)) ∗ (∃ d, owns (c : Thread nD τ) (st1_2 t) fullShare ((dat1 V c).before 2 t d)) ∗ (∃ d, owns (c : Thread nD τ) (st1_3 t) fullShare ((dat1 V c).before 3 t d)) ∗ (∃ d, owns (c : Thread nD τ) (st1_4 t) fullShare ((dat1 V c).before 4 t d)) ∗ (∃ d, owns (c : Thread nD τ) (st1_5 t) fullShare ((dat1 V c).before 5 t d)) ∗ (∃ d, owns (c : Thread nD τ) (st1_6 t) fullShare ((dat1 V c).before 6 t d)) ∗ (∃ d, owns (c : Thread nD τ) (st1_7 t) fullShare ((dat1 V c).before 7 t d)) ∗ (∃ d, owns (c : Thread nD τ) (st1_8 t) fullShare ((dat1 V c).before 8 t d)) ∗ (∃ d, owns (c : Thread nD τ) (st1_9 t) fullShare ((dat1 V c).before 9 t d)))

/-- and after. -/
def post1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t ∗ (dat1 V c).leavesExact 6 t ∗ (dat1 V c).leavesExact 7 t ∗ (dat1 V c).leavesExact 8 t ∗ (dat1 V c).leavesExact 9 t)

theorem leaves1_0 (c : Dev nD) (t : Fin cfg1.N) : (dat1 V c).leavesExact 0 t = owns (c : Thread nD τ) (st1_0 t) fullShare (blk1 V c 0 t) := by
  unfold Dat.leavesExact; rw [show cfg1.idle 0 (grid1.coords t) = false from rfl, after1_0]
theorem leaves1_1 (c : Dev nD) (t : Fin cfg1.N) : (dat1 V c).leavesExact 1 t = owns (c : Thread nD τ) (st1_1 t) fullShare (blk1 V c 1 t) := by
  unfold Dat.leavesExact; rw [show cfg1.idle 1 (grid1.coords t) = false from rfl, after1_1]
theorem leaves1_2 (c : Dev nD) (t : Fin cfg1.N) : (dat1 V c).leavesExact 2 t = owns (c : Thread nD τ) (st1_2 t) fullShare (blk1 V c 2 t) := by
  unfold Dat.leavesExact; rw [show cfg1.idle 2 (grid1.coords t) = false from rfl, after1_2]
theorem leaves1_3 (c : Dev nD) (t : Fin cfg1.N) : (dat1 V c).leavesExact 3 t = owns (c : Thread nD τ) (st1_3 t) fullShare (blk1 V c 3 t) := by
  unfold Dat.leavesExact; rw [show cfg1.idle 3 (grid1.coords t) = false from rfl, after1_3]
theorem leaves1_4 (c : Dev nD) (t : Fin cfg1.N) : (dat1 V c).leavesExact 4 t = owns (c : Thread nD τ) (st1_4 t) fullShare (blk1 V c 4 t) := by
  unfold Dat.leavesExact; rw [show cfg1.idle 4 (grid1.coords t) = false from rfl, after1_4]
theorem leaves1_5 (c : Dev nD) (t : Fin cfg1.N) : (dat1 V c).leavesExact 5 t = owns (c : Thread nD τ) (st1_5 t) fullShare (blk1 V c 5 t) := by
  unfold Dat.leavesExact; rw [show cfg1.idle 5 (grid1.coords t) = false from rfl, after1_5]
theorem leaves1_6 (c : Dev nD) (t : Fin cfg1.N) : (dat1 V c).leavesExact 6 t = owns (c : Thread nD τ) (st1_6 t) fullShare (blk1 V c 6 t) := by
  unfold Dat.leavesExact; rw [show cfg1.idle 6 (grid1.coords t) = false from rfl, after1_6]
theorem leaves1_7 (c : Dev nD) (t : Fin cfg1.N) : (dat1 V c).leavesExact 7 t = owns (c : Thread nD τ) (st1_7 t) fullShare (out1_7 (grid1.coords t) (blk1 V c 0 t) (blk1 V c 1 t) (blk1 V c 2 t) (blk1 V c 3 t)) := by
  unfold Dat.leavesExact; rw [show cfg1.idle 7 (grid1.coords t) = false from rfl, after1_7]
theorem leaves1_8 (c : Dev nD) (t : Fin cfg1.N) : (dat1 V c).leavesExact 8 t = owns (c : Thread nD τ) (st1_8 t) fullShare ((sums V c t.val t.isLt).1) := by
  unfold Dat.leavesExact; rw [live8 t, after1_8]
theorem leaves1_9 (c : Dev nD) (t : Fin cfg1.N) : (dat1 V c).leavesExact 9 t = owns (c : Thread nD τ) (st1_9 t) fullShare ((sums V c t.val t.isLt).2) := by
  unfold Dat.leavesExact; rw [live9 t, after1_9]

set_option maxHeartbeats 1000000 in
theorem point1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    leaves1_0, leaves1_1, leaves1_2, leaves1_3, leaves1_4, leaves1_5, leaves1_6, leaves1_7, leaves1_8, leaves1_9]
  by_cases h0 : t.val % 8 = 0
  · rw [sums_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body1A c Set.univ (grid1.coords t) _ _ _ _ _ _ _ _ _ _ _ _ _ _ _ _ _ _ _ _ ((starts_iff t).mpr h0) (fun h => (adds_iff t).mp h h0) (blk1 V c 0 t) (blk1 V c 1 t) (blk1 V c 2 t) (blk1 V c 3 t) (blk1 V c 4 t) (blk1 V c 5 t) (blk1 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [sums_next V c t h0]
    simp only [before1_8 V c t h0, before1_9 V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body1B c Set.univ (grid1.coords t) _ _ _ _ _ _ _ _ _ _ _ _ _ _ _ _ _ _ _ _ (fun h => h0 ((starts_iff t).mp h)) ((adds_iff t).mpr h0) (blk1 V c 0 t) (blk1 V c 1 t) (blk1 V c 2 t) (blk1 V c 3 t) (blk1 V c 4 t) (blk1 V c 5 t) (blk1 V c 6 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem row1 (t : Fin cfg1.N) : defs₀ (F := F) .tc cfg1.body (cfg1.bodyArgs t (cfg1.slots t)) = bodyAt1 t := by
  unfold defs₀; rw [Defs.onTc_tc]

/-- What the launch asks of the call's body, at every point. -/
theorem obligation1 (c : Dev nD) : BodyObligation (dat1 (F := F) V c) (defs₀ (F := F)) Variants.none () Set.univ := fun t => by
  rw [bigSep_W1, bigSep_W1, row1]
  exact triple_restated (point1 V c t) rfl .rfl fun _ => .rfl

end Cert.Proof

end
-- ==== Proof.Combine.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit.Basic
public import Idealize.ShloMosaic.Lib.Ring
public import Idealize.ShloMosaic.Lib.Tactic
public import Idealize.ShloMosaic.Lib.WordCmp
public import proofs.«01_k».proof.Proof.Whole

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The third call: the two chosen experts' outputs, weighted and added. -/

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, cut out of the array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rect2_S1000x256 : Rect S1000x256 := Rect.unit (s := S1000x256) ![0, 0] S1000x256.size inb_S1000x256_S1000x256_0_0
abbrev rect2_S1000x1 : Rect S1000x1 := Rect.unit (s := S1000x1) ![0, 0] S1000x1.size inb_S1000x1_S1000x1_0_0
abbrev rect2_S1000x8 : Rect S1000x8 := Rect.unit (s := S1000x8) ![0, 0] S1000x8.size inb_S1000x8_S1000x8_0_0
abbrev rect2_S8x256 : Rect S8x256 := Rect.unit (s := S8x256) ![0, 0] S8x256.size inb_S8x256_S8x256_0_0

/-- The weighted sum of the two chosen experts' outputs, for a block of rows. -/
def out2_9 (x0 : Vec F S1000x256 .f32) (x1 : Vec F S1000x256 .f32) (x2 : Vec F S1000x1 .f32) (x3 : Vec F S1000x8 .f32) (x4 : Vec F S1000x8 .f32) (x5 : Vec F S1000x8 .f32) (x6 : Vec F S8x256 .f32) (x7 : Vec F S1000x256 .f32) (x8 : Vec F S1000x256 .f32) : Vec F S1000x256 .f32 :=
  k2_pay1 (k2_pay2 x2) (k2_pay3 x3 x4) (k2_pay4 x3 x5) (k2_pay5 x5 x6) (k2_pay6 x2 x4 x6 x0 x7)
    (Scalar.ofBits .f32 0x00000000#32) x1 x8

theorem out2_9_ld (x0 : Vec F S1000x256 .f32) (x1 : Vec F S1000x256 .f32) (x2 : Vec F S1000x1 .f32) (x3 : Vec F S1000x8 .f32) (x4 : Vec F S1000x8 .f32) (x5 : Vec F S1000x8 .f32) (x6 : Vec F S8x256 .f32) (x7 : Vec F S1000x256 .f32) (x8 : Vec F S1000x256 .f32) :
    k2_pay1 (k2_pay2 (View.ld x2 rect2_S1000x1)) (k2_pay3 (View.ld x3 rect2_S1000x8) (View.ld x4 rect2_S1000x8)) (k2_pay4 (View.ld x3 rect2_S1000x8) (View.ld x5 rect2_S1000x8)) (k2_pay5 (View.ld x5 rect2_S1000x8) (View.ld x6 rect2_S8x256)) (k2_pay6 (View.ld x2 rect2_S1000x1) (View.ld x4 rect2_S1000x8) (View.ld x6 rect2_S8x256) (View.ld x0 rect2_S1000x256) (View.ld x7 rect2_S1000x256))
    (Scalar.ofBits .f32 0x00000000#32) (View.ld x1 rect2_S1000x256) (View.ld x8 rect2_S1000x256) = out2_9 x0 x1 x2 x3 x4 x5 x6 x7 x8 := by
  unfold out2_9; rw [View.ld_unit_lit _ x0 (by decide), View.ld_unit_lit _ x1 (by decide), View.ld_unit_lit _ x2 (by decide), View.ld_unit_lit _ x3 (by decide), View.ld_unit_lit _ x4 (by decide), View.ld_unit_lit _ x5 (by decide), View.ld_unit_lit _ x6 (by decide), View.ld_unit_lit _ x7 (by decide), View.ld_unit_lit _ x8 (by decide)]

set_option maxHeartbeats 1000000 in
/-- The body at any point: it keeps its inputs and leaves each output as above, whatever the outputs held. -/
theorem body2 (c : Dev nD) (E : Set ℕ) (i : grid2.Coords) (arg1 : Memref sig .tc .vmem S1000x256 .f32) (harg1 : arg1.IsWhole) (arg2 : Memref sig .tc .vmem S1000x256 .f32) (harg2 : arg2.IsWhole) (arg3 : Memref sig .tc .vmem S1000x1 .f32) (harg3 : arg3.IsWhole) (arg4 : Memref sig .tc .vmem S1000x8 .f32) (harg4 : arg4.IsWhole) (arg5 : Memref sig .tc .vmem S1000x8 .f32) (harg5 : arg5.IsWhole) (arg6 : Memref sig .tc .vmem S1000x8 .f32) (harg6 : arg6.IsWhole) (arg7 : Memref sig .tc .vmem S8x256 .f32) (harg7 : arg7.IsWhole) (arg8 : Memref sig .tc .vmem S1000x256 .f32) (harg8 : arg8.IsWhole) (arg9 : Memref sig .tc .vmem S1000x256 .f32) (harg9 : arg9.IsWhole) (arg10 : Memref sig .tc .vmem S1000x256 .f32) (harg10 : arg10.IsWhole)
    (x0 : Vec F S1000x256 .f32) (x1 : Vec F S1000x256 .f32) (x2 : Vec F S1000x1 .f32) (x3 : Vec F S1000x8 .f32) (x4 : Vec F S1000x8 .f32) (x5 : Vec F S1000x8 .f32) (x6 : Vec F S8x256 .f32) (x7 : Vec F S1000x256 .f32) (x8 : Vec F S1000x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__combine_body i arg1 harg1 arg2 harg2 arg3 harg3 arg4 harg4 arg5 harg5 arg6 harg6 arg7 harg7 arg8 harg8 arg9 harg9 arg10 harg10) K := by
  simp only [cc2__combine_body_eq_skeleton]; unfold cc2__combine_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact read_whole _ _ _ _ _ (by decide) (out2_9_ld _ _ _ _ _ _ _ _ _ )

/-- The proof data of the call: arrays as found, inputs' buffers at their blocks, outputs' as the body leaves them. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => blk2 V c 7 t
    | ⟨8, _⟩ => blk2 V c 8 t
    | ⟨9, _⟩ => out2_9 (blk2 V c 0 t) (blk2 V c 1 t) (blk2 V c 2 t) (blk2 V c 3 t) (blk2 V c 4 t) (blk2 V c 5 t) (blk2 V c 6 t) (blk2 V c 7 t) (blk2 V c 8 t)
  Φ _ := Pipeline.ΦA spec2 c
  q _ := fullShare
  owed _ := 0

theorem arr2 (c : Dev nD) (w : Fin cfg2.W) : (dat2 V c).A w = V c (Pipeline.arrRef spec2 w) := by dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = blk2 V c 5 t := by dsimp only [dat2]
theorem after2_6 (c : Dev nD) (t : Fin cfg2.N) : (dat2 V c).after 6 t = blk2 V c 6 t := by dsimp only [dat2]
theorem after2_7 (c : Dev nD) (t : Fin cfg2.N) : (dat2 V c).after 7 t = blk2 V c 7 t := by dsimp only [dat2]
theorem after2_8 (c : Dev nD) (t : Fin cfg2.N) : (dat2 V c).after 8 t = blk2 V c 8 t := by dsimp only [dat2]
theorem after2_9 (c : Dev nD) (t : Fin cfg2.N) : (dat2 V c).after 9 t = out2_9 (blk2 V c 0 t) (blk2 V c 1 t) (blk2 V c 2 t) (blk2 V c 3 t) (blk2 V c 4 t) (blk2 V c 5 t) (blk2 V c 6 t) (blk2 V c 7 t) (blk2 V c 8 t) := by dsimp only [dat2]

/-! An input's buffer holds its block whenever the body runs, fetched at this point or kept from an earlier one. -/

theorem before2_0 (c : Dev nD) (t : Fin cfg2.N) (d) : (dat2 V c).before 0 t d = blk2 V c 0 t :=
  ((dat2 V c).before_in_eq_fetched 0 rfl (fun _ => rfl) (fun _ _ _ => rfl)
    (fun t => by rw [after2_0]; unfold Dat.blockOf blk2; rw [arr2]) t d).trans (by unfold Dat.fetched Dat.blockOf blk2; rw [arr2]; try rfl)
theorem before2_1 (c : Dev nD) (t : Fin cfg2.N) (d) : (dat2 V c).before 1 t d = blk2 V c 1 t :=
  ((dat2 V c).before_in_eq_fetched 1 rfl (fun _ => rfl) (fun _ _ _ => rfl)
    (fun t => by rw [after2_1]; unfold Dat.blockOf blk2; rw [arr2]) t d).trans (by unfold Dat.fetched Dat.blockOf blk2; rw [arr2]; try rfl)
theorem before2_2 (c : Dev nD) (t : Fin cfg2.N) (d) : (dat2 V c).before 2 t d = blk2 V c 2 t :=
  ((dat2 V c).before_in_eq_fetched 2 rfl (fun _ => rfl) (fun _ _ _ => rfl)
    (fun t => by rw [after2_2]; unfold Dat.blockOf blk2; rw [arr2]) t d).trans (by unfold Dat.fetched Dat.blockOf blk2; rw [arr2]; try rfl)
theorem before2_3 (c : Dev nD) (t : Fin cfg2.N) (d) : (dat2 V c).before 3 t d = blk2 V c 3 t :=
  ((dat2 V c).before_in_eq_fetched 3 rfl (fun _ => rfl) (fun _ _ _ => rfl)
    (fun t => by rw [after2_3]; unfold Dat.blockOf blk2; rw [arr2]) t d).trans (by unfold Dat.fetched Dat.blockOf blk2; rw [arr2]; try rfl)
theorem before2_4 (c : Dev nD) (t : Fin cfg2.N) (d) : (dat2 V c).before 4 t d = blk2 V c 4 t :=
  ((dat2 V c).before_in_eq_fetched 4 rfl (fun _ => rfl) (fun _ _ _ => rfl)
    (fun t => by rw [after2_4]; unfold Dat.blockOf blk2; rw [arr2]) t d).trans (by unfold Dat.fetched Dat.blockOf blk2; rw [arr2]; try rfl)
theorem before2_5 (c : Dev nD) (t : Fin cfg2.N) (d) : (dat2 V c).before 5 t d = blk2 V c 5 t :=
  ((dat2 V c).before_in_eq_fetched 5 rfl (fun _ => rfl) (fun _ _ _ => rfl)
    (fun t => by rw [after2_5]; unfold Dat.blockOf blk2; rw [arr2]) t d).trans (by unfold Dat.fetched Dat.blockOf blk2; rw [arr2]; try rfl)
theorem before2_6 (c : Dev nD) (t : Fin cfg2.N) (d) : (dat2 V c).before 6 t d = blk2 V c 6 t :=
  ((dat2 V c).before_in_eq_fetched 6 rfl (fun _ => rfl) (fun _ _ _ => rfl)
    (fun t => by rw [after2_6]; unfold Dat.blockOf blk2; rw [arr2]) t d).trans (by unfold Dat.fetched Dat.blockOf blk2; rw [arr2]; try rfl)
theorem before2_7 (c : Dev nD) (t : Fin cfg2.N) (d) : (dat2 V c).before 7 t d = blk2 V c 7 t :=
  ((dat2 V c).before_in_eq_fetched 7 rfl (fun _ => rfl) (fun _ _ _ => rfl)
    (fun t => by rw [after2_7]; unfold Dat.blockOf blk2; rw [arr2]) t d).trans (by unfold Dat.fetched Dat.blockOf blk2; rw [arr2]; try rfl)
theorem before2_8 (c : Dev nD) (t : Fin cfg2.N) (d) : (dat2 V c).before 8 t d = blk2 V c 8 t :=
  ((dat2 V c).before_in_eq_fetched 8 rfl (fun _ => rfl) (fun _ _ _ => rfl)
    (fun t => by rw [after2_8]; unfold Dat.blockOf blk2; rw [arr2]) t d).trans (by unfold Dat.fetched Dat.blockOf blk2; rw [arr2]; try rfl)

/-- The call's own statement of the body at point `t`: before, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d)) ∗ (∃ d, owns (c : Thread nD τ) (st2_1 t) fullShare ((dat2 V c).before 1 t d)) ∗ (∃ d, owns (c : Thread nD τ) (st2_2 t) fullShare ((dat2 V c).before 2 t d)) ∗ (∃ d, owns (c : Thread nD τ) (st2_3 t) fullShare ((dat2 V c).before 3 t d)) ∗ (∃ d, owns (c : Thread nD τ) (st2_4 t) fullShare ((dat2 V c).before 4 t d)) ∗ (∃ d, owns (c : Thread nD τ) (st2_5 t) fullShare ((dat2 V c).before 5 t d)) ∗ (∃ d, owns (c : Thread nD τ) (st2_6 t) fullShare ((dat2 V c).before 6 t d)) ∗ (∃ d, owns (c : Thread nD τ) (st2_7 t) fullShare ((dat2 V c).before 7 t d)) ∗ (∃ d, owns (c : Thread nD τ) (st2_8 t) fullShare ((dat2 V c).before 8 t d)) ∗ (∃ d, owns (c : Thread nD τ) (st2_9 t) fullShare ((dat2 V c).before 9 t d)))

/-- and after. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t) ∗ owns (c : Thread nD τ) (st2_1 t) fullShare ((dat2 V c).after 1 t) ∗ owns (c : Thread nD τ) (st2_2 t) fullShare ((dat2 V c).after 2 t) ∗ owns (c : Thread nD τ) (st2_3 t) fullShare ((dat2 V c).after 3 t) ∗ owns (c : Thread nD τ) (st2_4 t) fullShare ((dat2 V c).after 4 t) ∗ owns (c : Thread nD τ) (st2_5 t) fullShare ((dat2 V c).after 5 t) ∗ owns (c : Thread nD τ) (st2_6 t) fullShare ((dat2 V c).after 6 t) ∗ owns (c : Thread nD τ) (st2_7 t) fullShare ((dat2 V c).after 7 t) ∗ owns (c : Thread nD τ) (st2_8 t) fullShare ((dat2 V c).after 8 t) ∗ owns (c : Thread nD τ) (st2_9 t) fullShare ((dat2 V c).after 9 t))

theorem point2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body2 c Set.univ (grid2.coords t) _ _ _ _ _ _ _ _ _ _ _ _ _ _ _ _ _ _ _ _ (blk2 V c 0 t) (blk2 V c 1 t) (blk2 V c 2 t) (blk2 V c 3 t) (blk2 V c 4 t) (blk2 V c 5 t) (blk2 V c 6 t) (blk2 V c 7 t) (blk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem row2 (t : Fin cfg2.N) : defs₀ (F := F) .tc cfg2.body (cfg2.bodyArgs t (cfg2.slots t)) = bodyAt2 t := by
  unfold defs₀; rw [Defs.onTc_tc]

/-- What the launch asks of the call's body, at every point. -/
theorem obligation2 (c : Dev nD) : BodyObligation (dat2 (F := F) V c) (defs₀ (F := F)) Variants.none () Set.univ := fun t => by
  rw [bigSep_W2, bigSep_W2, row2]
  exact triple_restated (point2 V c t) rfl .rfl fun _ => .rfl

end Cert.Proof

end
-- ==== Proof.Run.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit.Basic
public import Idealize.ShloMosaic.Lib.Ring
public import Idealize.ShloMosaic.Lib.Tactic
public import Idealize.ShloMosaic.Lib.WordCmp
public import proofs.«01_k».proof.Proof.Gen.KernelIdeal.Regions
public import Idealize.ShloMosaic.Lib.Pipeline.RegionsLoop
public import Idealize.ShloMosaic.Lib.Pipeline.FrameSuffix
public import Idealize.ShloMosaic.Lib.UnfoldOut
public import proofs.«01_k».proof.Proof.Gate
public import proofs.«01_k».proof.Proof.Experts
public import proofs.«01_k».proof.Proof.Combine

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The whole run: the host operations and the three calls in order, from the launch to the return. -/

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The contents of a core's buffers at each boundary: `bufs0` at the launch, `bufs12` at the return. -/

abbrev bufs0 (c : Dev nD) : Valuation τ sig (Elt F) := fun b => m (c, b)
abbrev bufs1 (c : Dev nD) : Valuation τ sig (Elt F) := StableHlo.after hostOps0 (bufs0 m c)

/-- What call 0 is entered from. -/
abbrev enter0 (c : Dev nD) (b : Ref sig .tc) : Buf (Elt F) ((c : Thread nD τ).loc b) := bufs1 m c b
/-- Call 0 leaves its arrays as the pipeline leaves them, and every other buffer alone. -/
def bufs2 (c : Dev nD) : Valuation τ sig (Elt F) :=
  Pipeline.withArrays spec0 c (bufs1 m c) fun w => (dat0 (enter0 m) c).arrAt w cfg0.N
abbrev leave0 (c : Dev nD) (b : Ref sig .tc) : Buf (Elt F) ((c : Thread nD τ).loc b) := bufs2 m c b

theorem leave0_arr (c : Dev nD) (w : Fin cfg0.W) : leave0 m c (Pipeline.arrRef spec0 w) = (dat0 (enter0 m) c).arrAt w cfg0.N := by
  unfold leave0 bufs2; exact Pipeline.withArrays_arr spec0 launch0.win.arr_inj c _ _ w

theorem leave0_rest (c : Dev nD) (b : Ref sig .tc) (h : ∀ w, Pipeline.arrRef spec0 w ≠ b) : leave0 m c b = enter0 m c b := by
  unfold leave0 bufs2; exact Pipeline.withArrays_of_ne spec0 c _ _ b h

/-- A buffer that is no output of call 0 passes through it. -/
theorem leave0_keeps (c : Dev nD) (b : Ref sig .tc) (h : ∀ w : Fin cfg0.W, Pipeline.arrRef spec0 w = b → (cfg0.win w).isOut = false) :
    leave0 m c b = enter0 m c b := by
  by_cases hw : ∃ w : Fin cfg0.W, Pipeline.arrRef spec0 w = b
  · obtain ⟨w, rfl⟩ := hw
    exact (leave0_arr m c w).trans (((dat0 (enter0 m) c).arrAt_in w (h w rfl) _).trans (arr0 (enter0 m) c w))
  · exact leave0_rest m c b fun w e => hw ⟨w, e⟩

theorem leave0_other (c : Dev nD) : ∀ b, b ∉ Finset.univ.image (Pipeline.arrRef spec0) → leave0 m c b = enter0 m c b :=
  fun b hb => leave0_rest m c b fun w e => hb (Finset.mem_image.mpr ⟨w, Finset.mem_univ _, e⟩)

abbrev bufs3 (c : Dev nD) : Valuation τ sig (Elt F) := StableHlo.after hostOps1 (bufs2 m c)
abbrev bufs4 (c : Dev nD) : Valuation τ sig (Elt F) := StableHlo.after hostOps1_1 (bufs3 m c)
abbrev bufs5 (c : Dev nD) : Valuation τ sig (Elt F) := StableHlo.after hostOps1_2 (bufs4 m c)

/-- What call 1 is entered from. -/
abbrev enter1 (c : Dev nD) (b : Ref sig .tc) : Buf (Elt F) ((c : Thread nD τ).loc b) := bufs5 m c b
/-- Call 1 leaves its arrays as the pipeline leaves them, and every other buffer alone. -/
def bufs6 (c : Dev nD) : Valuation τ sig (Elt F) :=
  Pipeline.withArrays spec1 c (bufs5 m c) fun w => (dat1 (enter1 m) c).arrAt w cfg1.N
abbrev leave1 (c : Dev nD) (b : Ref sig .tc) : Buf (Elt F) ((c : Thread nD τ).loc b) := bufs6 m c b

theorem leave1_arr (c : Dev nD) (w : Fin cfg1.W) : leave1 m c (Pipeline.arrRef spec1 w) = (dat1 (enter1 m) c).arrAt w cfg1.N := by
  unfold leave1 bufs6; exact Pipeline.withArrays_arr spec1 launch1.win.arr_inj c _ _ w

theorem leave1_rest (c : Dev nD) (b : Ref sig .tc) (h : ∀ w, Pipeline.arrRef spec1 w ≠ b) : leave1 m c b = enter1 m c b := by
  unfold leave1 bufs6; exact Pipeline.withArrays_of_ne spec1 c _ _ b h

/-- A buffer that is no output of call 1 passes through it. -/
theorem leave1_keeps (c : Dev nD) (b : Ref sig .tc) (h : ∀ w : Fin cfg1.W, Pipeline.arrRef spec1 w = b → (cfg1.win w).isOut = false) :
    leave1 m c b = enter1 m c b := by
  by_cases hw : ∃ w : Fin cfg1.W, Pipeline.arrRef spec1 w = b
  · obtain ⟨w, rfl⟩ := hw
    exact (leave1_arr m c w).trans (((dat1 (enter1 m) c).arrAt_in w (h w rfl) _).trans (arr1 (enter1 m) c w))
  · exact leave1_rest m c b fun w e => hw ⟨w, e⟩

theorem leave1_other (c : Dev nD) : ∀ b, b ∉ Finset.univ.image (Pipeline.arrRef spec1) → leave1 m c b = enter1 m c b :=
  fun b hb => leave1_rest m c b fun w e => hb (Finset.mem_image.mpr ⟨w, Finset.mem_univ _, e⟩)

abbrev bufs7 (c : Dev nD) : Valuation τ sig (Elt F) := StableHlo.after hostOps2 (bufs6 m c)
abbrev bufs8 (c : Dev nD) : Valuation τ sig (Elt F) := StableHlo.after hostOps2_1 (bufs7 m c)
abbrev bufs9 (c : Dev nD) : Valuation τ sig (Elt F) := StableHlo.after hostOps2_2 (bufs8 m c)
abbrev bufs10 (c : Dev nD) : Valuation τ sig (Elt F) := StableHlo.after hostOps2_3 (bufs9 m c)
abbrev bufs11 (c : Dev nD) : Valuation τ sig (Elt F) := StableHlo.after hostOps2_4 (bufs10 m c)

/-- What call 2 is entered from. -/
abbrev enter2 (c : Dev nD) (b : Ref sig .tc) : Buf (Elt F) ((c : Thread nD τ).loc b) := bufs11 m c b
/-- Call 2 leaves its arrays as the pipeline leaves them, and every other buffer alone. -/
def bufs12 (c : Dev nD) : Valuation τ sig (Elt F) :=
  Pipeline.withArrays spec2 c (bufs11 m c) fun w => (dat2 (enter2 m) c).arrAt w cfg2.N
abbrev leave2 (c : Dev nD) (b : Ref sig .tc) : Buf (Elt F) ((c : Thread nD τ).loc b) := bufs12 m c b

theorem leave2_arr (c : Dev nD) (w : Fin cfg2.W) : leave2 m c (Pipeline.arrRef spec2 w) = (dat2 (enter2 m) c).arrAt w cfg2.N := by
  unfold leave2 bufs12; exact Pipeline.withArrays_arr spec2 launch2.win.arr_inj c _ _ w

theorem leave2_rest (c : Dev nD) (b : Ref sig .tc) (h : ∀ w, Pipeline.arrRef spec2 w ≠ b) : leave2 m c b = enter2 m c b := by
  unfold leave2 bufs12; exact Pipeline.withArrays_of_ne spec2 c _ _ b h

/-- A buffer that is no output of call 2 passes through it. -/
theorem leave2_keeps (c : Dev nD) (b : Ref sig .tc) (h : ∀ w : Fin cfg2.W, Pipeline.arrRef spec2 w = b → (cfg2.win w).isOut = false) :
    leave2 m c b = enter2 m c b := by
  by_cases hw : ∃ w : Fin cfg2.W, Pipeline.arrRef spec2 w = b
  · obtain ⟨w, rfl⟩ := hw
    exact (leave2_arr m c w).trans (((dat2 (enter2 m) c).arrAt_in w (h w rfl) _).trans (arr2 (enter2 m) c w))
  · exact leave2_rest m c b fun w e => hw ⟨w, e⟩

theorem leave2_other (c : Dev nD) : ∀ b, b ∉ Finset.univ.image (Pipeline.arrRef spec2) → leave2 m c b = enter2 m c b :=
  fun b hb => leave2_rest m c b fun w e => hb (Finset.mem_image.mpr ⟨w, Finset.mem_univ _, e⟩)

/-! The arguments are written by nothing. -/

abbrev argRefs : List (Ref sig .tc) := [main_arg0, main_arg1, main_arg2, main_arg3, main_arg4, main_arg5, main_arg6, main_arg7, main_arg8, main_arg9]

theorem hostOps0_args : ∀ a ∈ argRefs, a ∉ hostOps0_W := ListAll.forall_mem_of_all_decide (by decide +kernel)
theorem call0_args : ∀ a ∈ argRefs, ∀ w : Fin cfg0.W, Pipeline.arrRef spec0 w = a → (cfg0.win w).isOut = false :=
  ListAll.forall_mem_of_all_decide (by decide +kernel)
theorem hostOps1_args : ∀ a ∈ argRefs, a ∉ hostOps1_W := ListAll.forall_mem_of_all_decide (by decide +kernel)
theorem hostOps1_1_args : ∀ a ∈ argRefs, a ∉ hostOps1_1_W := ListAll.forall_mem_of_all_decide (by decide +kernel)
theorem hostOps1_2_args : ∀ a ∈ argRefs, a ∉ hostOps1_2_W := ListAll.forall_mem_of_all_decide (by decide +kernel)
theorem call1_args : ∀ a ∈ argRefs, ∀ w : Fin cfg1.W, Pipeline.arrRef spec1 w = a → (cfg1.win w).isOut = false :=
  ListAll.forall_mem_of_all_decide (by decide +kernel)
theorem hostOps2_args : ∀ a ∈ argRefs, a ∉ hostOps2_W := ListAll.forall_mem_of_all_decide (by decide +kernel)
theorem hostOps2_1_args : ∀ a ∈ argRefs, a ∉ hostOps2_1_W := ListAll.forall_mem_of_all_decide (by decide +kernel)
theorem hostOps2_2_args : ∀ a ∈ argRefs, a ∉ hostOps2_2_W := ListAll.forall_mem_of_all_decide (by decide +kernel)
theorem hostOps2_3_args : ∀ a ∈ argRefs, a ∉ hostOps2_3_W := ListAll.forall_mem_of_all_decide (by decide +kernel)
theorem hostOps2_4_args : ∀ a ∈ argRefs, a ∉ hostOps2_4_W := ListAll.forall_mem_of_all_decide (by decide +kernel)
theorem call2_args : ∀ a ∈ argRefs, ∀ w : Fin cfg2.W, Pipeline.arrRef spec2 w = a → (cfg2.win w).isOut = false :=
  ListAll.forall_mem_of_all_decide (by decide +kernel)

theorem args_bufs1 (c : Dev nD) : ∀ a ∈ argRefs, bufs1 m c a = m ((c : Thread nD τ).loc a) :=
  fun a ha => StableHlo.after_of_writes_sub hostOps0 _ hostOps0_writes (hostOps0_args a ha)
theorem args_bufs2 (c : Dev nD) : ∀ a ∈ argRefs, bufs2 m c a = m ((c : Thread nD τ).loc a) :=
  fun a ha => (leave0_keeps m c a (call0_args a ha)).trans (args_bufs1 m c a ha)
theorem args_bufs3 (c : Dev nD) : ∀ a ∈ argRefs, bufs3 m c a = m ((c : Thread nD τ).loc a) :=
  fun a ha => (StableHlo.after_of_writes_sub hostOps1 _ hostOps1_writes (hostOps1_args a ha)).trans (args_bufs2 m c a ha)
theorem args_bufs4 (c : Dev nD) : ∀ a ∈ argRefs, bufs4 m c a = m ((c : Thread nD τ).loc a) :=
  fun a ha => (StableHlo.after_of_writes_sub hostOps1_1 _ hostOps1_1_writes (hostOps1_1_args a ha)).trans (args_bufs3 m c a ha)
theorem args_bufs5 (c : Dev nD) : ∀ a ∈ argRefs, bufs5 m c a = m ((c : Thread nD τ).loc a) :=
  fun a ha => (StableHlo.after_of_writes_sub hostOps1_2 _ hostOps1_2_writes (hostOps1_2_args a ha)).trans (args_bufs4 m c a ha)
theorem args_bufs6 (c : Dev nD) : ∀ a ∈ argRefs, bufs6 m c a = m ((c : Thread nD τ).loc a) :=
  fun a ha => (leave1_keeps m c a (call1_args a ha)).trans (args_bufs5 m c a ha)
theorem args_bufs7 (c : Dev nD) : ∀ a ∈ argRefs, bufs7 m c a = m ((c : Thread nD τ).loc a) :=
  fun a ha => (StableHlo.after_of_writes_sub hostOps2 _ hostOps2_writes (hostOps2_args a ha)).trans (args_bufs6 m c a ha)
theorem args_bufs8 (c : Dev nD) : ∀ a ∈ argRefs, bufs8 m c a = m ((c : Thread nD τ).loc a) :=
  fun a ha => (StableHlo.after_of_writes_sub hostOps2_1 _ hostOps2_1_writes (hostOps2_1_args a ha)).trans (args_bufs7 m c a ha)
theorem args_bufs9 (c : Dev nD) : ∀ a ∈ argRefs, bufs9 m c a = m ((c : Thread nD τ).loc a) :=
  fun a ha => (StableHlo.after_of_writes_sub hostOps2_2 _ hostOps2_2_writes (hostOps2_2_args a ha)).trans (args_bufs8 m c a ha)
theorem args_bufs10 (c : Dev nD) : ∀ a ∈ argRefs, bufs10 m c a = m ((c : Thread nD τ).loc a) :=
  fun a ha => (StableHlo.after_of_writes_sub hostOps2_3 _ hostOps2_3_writes (hostOps2_3_args a ha)).trans (args_bufs9 m c a ha)
theorem args_bufs11 (c : Dev nD) : ∀ a ∈ argRefs, bufs11 m c a = m ((c : Thread nD τ).loc a) :=
  fun a ha => (StableHlo.after_of_writes_sub hostOps2_4 _ hostOps2_4_writes (hostOps2_4_args a ha)).trans (args_bufs10 m c a ha)
theorem args_bufs12 (c : Dev nD) : ∀ a ∈ argRefs, bufs12 m c a = m ((c : Thread nD τ).loc a) :=
  fun a ha => (leave2_keeps m c a (call2_args a ha)).trans (args_bufs11 m c a ha)

/-! The proof data of the three calls, and what rides beside the buffers. -/

/-- Each call's proof data, at the contents the call is entered from. -/
def calls : (p : Fin 3) → (c : Dev nD) → Dat τ (Elt F) Unit ℕ (UR sig nD τ) ℕ (Pipeline.pin (pcfgs (F := F)) adm p) c
  | ⟨0, _⟩ => fun c => dat0 (enter0 m) c
  | ⟨1, _⟩ => fun c => dat1 (enter1 m) c
  | ⟨2, _⟩ => fun c => dat2 (enter2 m) c

abbrev 𝒱₀ : Variants := Variants.none
abbrev L : GSem nD τ sig → Finset Unit := fun _ => ∅
abbrev lv : GSem nD τ sig → Unit → ℕ := fun _ _ => 0
/-- The core's generator register, and that the core owes nothing. -/
abbrev beside (c : Dev nD) : sProp 𝕄 := iprop((∃ r, prngReg c r) ∗ ∃ W, owes (c : Thread nD τ) (0 : CellTallies nD τ sig Unit) W)
/-- The state of a core between two items: its buffers, and what rides beside them. -/
abbrev state (W : Dev nD → Valuation τ sig (Elt F)) (c : Dev nD) : sProp 𝕄 :=
  iprop(StableHlo.held (c : Thread nD τ) (Pipeline.ucRefs τ sig) (W c) ∗ beside c)
/-- The state at the return. -/
abbrev final (c : Dev nD) : sProp 𝕄 := iprop(StableHlo.held (c : Thread nD τ) (Pipeline.ucRefs τ sig) (bufs12 m c) ∗ ∃ r, prngReg c r)

/-- A stretch of host operations as a segment of the run. -/
abbrev host (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Call 0 as a segment: its arrays are taken out of the buffers at entry and put back at exit. -/
def call0 : Pipeline.RegionSeg (pcfgs (F := F)) adm (calls m) () defs₀ 𝒱₀ L lv 0 where
  win := launch0.win.to₀
  block_pos := launch0.block_pos
  stage_whole := launch0.stage_whole
  K := PEmpty
  osem k := k.elim
  ho := Pipeline.OwnSemFacts.none _
  hbody c := (obligation0 (enter0 m) c).loose
  hwaits := Pipeline.hwaits_of_owed_zero _ _ _ _ L lv 0 fun _ _ => rfl
  pre c := state (bufs1 m) c
  post c := state (bufs2 m) c
  X c := iprop(∃ r, prngReg c r)
  Y c := iprop(∃ r, prngReg c r)
  Z c := Pipeline.unscopedRest (Ix := Unit) (Name := ℕ) (U := UR sig nD τ) (Lvl := ℕ) spec0 c (enter0 m c)
  hentry c := by
    rw [Pipeline.ownSems0_none]
    have hsplit := Pipeline.arrays_of_unscopedBufs (p := 0) (pcfgs (F := F)) adm (calls m) launch0.win launch0.arr_whole c
      ((calls m 0 c).share_full fun _ => rfl) (enter0 m c) (arr0 (enter0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (calls m 0 c).Φ 0 = Pipeline.ΦA spec0 c from rfl]; unfold Pipeline.ΦA
    iintro ⟨Hp, -, Hr⟩
    isplitl [Hr]; · iexact Hr
    iexact Hp
  hout c := by
    rw [Pipeline.ownSems0_none, show (calls m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (calls m) ((calls m 0 c).share_full fun _ => rfl)
      (enter0 m c) (leave0 m c) ((calls m 0 c).arrAt · cfg0.N) (fun w => (leave0_arr m c w).symm) (leave0_other m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: its arrays are taken out of the buffers at entry and put back at exit. -/
def call1 : Pipeline.RegionSeg (pcfgs (F := F)) adm (calls m) () defs₀ 𝒱₀ L lv 1 where
  win := launch1.win.to₀
  block_pos := launch1.block_pos
  stage_whole := launch1.stage_whole
  K := PEmpty
  osem k := k.elim
  ho := Pipeline.OwnSemFacts.none _
  hbody c := (obligation1 (enter1 m) c).loose
  hwaits := Pipeline.hwaits_of_owed_zero _ _ _ _ L lv 1 fun _ _ => rfl
  pre c := state (bufs5 m) c
  post c := state (bufs6 m) c
  X c := iprop(∃ r, prngReg c r)
  Y c := iprop(∃ r, prngReg c r)
  Z c := Pipeline.unscopedRest (Ix := Unit) (Name := ℕ) (U := UR sig nD τ) (Lvl := ℕ) spec1 c (enter1 m c)
  hentry c := by
    rw [Pipeline.ownSems0_none]
    have hsplit := Pipeline.arrays_of_unscopedBufs (p := 1) (pcfgs (F := F)) adm (calls m) launch1.win launch1.arr_whole c
      ((calls m 1 c).share_full fun _ => rfl) (enter1 m c) (arr1 (enter1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (calls m 1 c).Φ 0 = Pipeline.ΦA spec1 c from rfl]; unfold Pipeline.ΦA
    iintro ⟨Hp, -, Hr⟩
    isplitl [Hr]; · iexact Hr
    iexact Hp
  hout c := by
    rw [Pipeline.ownSems0_none, show (calls m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (calls m) ((calls m 1 c).share_full fun _ => rfl)
      (enter1 m c) (leave1 m c) ((calls m 1 c).arrAt · cfg1.N) (fun w => (leave1_arr m c w).symm) (leave1_other m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: its arrays are taken out of the buffers at entry and put back at exit. -/
def call2 : Pipeline.RegionSeg (pcfgs (F := F)) adm (calls m) () defs₀ 𝒱₀ L lv 2 where
  win := launch2.win.to₀
  block_pos := launch2.block_pos
  stage_whole := launch2.stage_whole
  K := PEmpty
  osem k := k.elim
  ho := Pipeline.OwnSemFacts.none _
  hbody c := (obligation2 (enter2 m) c).loose
  hwaits := Pipeline.hwaits_of_owed_zero _ _ _ _ L lv 2 fun _ _ => rfl
  pre c := state (bufs11 m) c
  post c := iprop(final m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (enter2 m c)
  hentry c := by
    rw [Pipeline.ownSems0_none]
    have hsplit := Pipeline.arrays_of_unscopedBufs (p := 2) (pcfgs (F := F)) adm (calls m) launch2.win launch2.arr_whole c
      ((calls m 2 c).share_full fun _ => rfl) (enter2 m c) (arr2 (enter2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (calls m 2 c).Φ 0 = Pipeline.ΦA spec2 c from rfl]; unfold Pipeline.ΦA
    iintro ⟨Hp, -, Hr⟩
    isplitl [Hr]; · iexact Hr
    iexact Hp
  hout c := by
    rw [Pipeline.ownSems0_none, show (calls m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (calls m) ((calls m 2 c).share_full fun _ => rfl)
      (enter2 m c) (leave2 m c) ((calls m 2 c).arrAt · cfg2.N) (fun w => (leave2_arr m c w).symm) (leave2_other m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The run's segments, in order. -/
abbrev segs : List (Pipeline.Seg (pcfgs (F := F)) adm (calls m) () defs₀ 𝒱₀ L lv) :=
  [ .host (host hostOps0 hostOps0_sub hostOps0_fresh (bufs0 m)),
    .region (call0 m),
    .host (host hostOps1 hostOps1_sub hostOps1_fresh (bufs2 m)),
    .host (host hostOps1_1 hostOps1_1_sub hostOps1_1_fresh (bufs3 m)),
    .host (host hostOps1_2 hostOps1_2_sub hostOps1_2_fresh (bufs4 m)),
    .region (call1 m),
    .host (host hostOps2 hostOps2_sub hostOps2_fresh (bufs6 m)),
    .host (host hostOps2_1 hostOps2_1_sub hostOps2_1_fresh (bufs7 m)),
    .host (host hostOps2_2 hostOps2_2_sub hostOps2_2_fresh (bufs8 m)),
    .host (host hostOps2_3 hostOps2_3_sub hostOps2_3_fresh (bufs9 m)),
    .host (host hostOps2_4 hostOps2_4_sub hostOps2_4_fresh (bufs10 m)),
    .region (call2 m) ]

theorem main_segs (c : Dev nD) : main (F := F) c = Pipeline.Seg.run (segs m) := (main_chain c).trans (by chain_rfl)

set_option backward.isDefEq.respectTransparency.types false in
/-- Every run ends, with every semaphore at zero, the arguments as launched, and the result as the third call leaves it. -/
theorem run : θ_run defs (onTc (τ := τ) (main (F := F))) ⟨m, fun _ => 0, ρ⟩ (fun r => (∀ c : Dev nD,
      r.2.mem ((c.tc : Thread nD τ).loc main_v45) = (dat2 (enter2 m) c).arrAt 9 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  Pipeline.θ_run_regions_kit_sems (pcfgs (F := F)) adm (calls m) () cellOf_inj emb₁ defs₀ 𝒱₀ L lv m ρ main (segs m)
    (fun c Q => by rw [main_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := state (bufs0 m)) (Tₙ := final m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (bufs0 m c)
        from Pipeline.unscopedBufs_held c (bufs0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bufs12 m c b)
    (hfin := fun c s' => by
      iintro ⟨⟨Hh, -⟩, HSI⟩
      unfold StableHlo.held
      imodintro
      iapply (pointsTo_read_all (Pipeline.ucRefs τ sig) (fun b => (((c : Thread nD τ)).1, b)) (bufs12 m c) s')
      isplitl [Hh] <;> iassumption)
    (hQ := fun s h hz => ⟨(fun c =>
      ⟨(h c _ (mem_uc main_v45 (by decide))).trans (leave2_arr m c 9),
       (h c _ (mem_uc main_arg0 (by decide))).trans (args_bufs12 m c main_arg0 (by decide)),
       (h c _ (mem_uc main_arg1 (by decide))).trans (args_bufs12 m c main_arg1 (by decide)),
       (h c _ (mem_uc main_arg2 (by decide))).trans (args_bufs12 m c main_arg2 (by decide)),
       (h c _ (mem_uc main_arg3 (by decide))).trans (args_bufs12 m c main_arg3 (by decide)),
       (h c _ (mem_uc main_arg4 (by decide))).trans (args_bufs12 m c main_arg4 (by decide)),
       (h c _ (mem_uc main_arg5 (by decide))).trans (args_bufs12 m c main_arg5 (by decide)),
       (h c _ (mem_uc main_arg6 (by decide))).trans (args_bufs12 m c main_arg6 (by decide)),
       (h c _ (mem_uc main_arg7 (by decide))).trans (args_bufs12 m c main_arg7 (by decide)),
       (h c _ (mem_uc main_arg8 (by decide))).trans (args_bufs12 m c main_arg8 (by decide)),
       (h c _ (mem_uc main_arg9 (by decide))).trans (args_bufs12 m c main_arg9 (by decide))⟩), funext fun g => hz g (.inr (regions_no_unscoped g.2))⟩)

end Cert.Proof

end
-- ==== Proof.Frames.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel.Launch
public import proofs.«01_k».proof.Proof.Gen.ReferenceIdeal.Run
public import proofs.«01_k».proof.Proof.Run

@[expose] public section

noncomputable section

namespace Cert.Proof

open Idealize.ShloMosaic Idealize.ShloMosaic.TcCoe Idealize.ShloMosaic.Tactic Idealize.SL.Sem

/-! The frame claims. The compiled kernel and its ideal reading are the same program text, so one run serves both. -/

/-- At every float instance, the kernel's run ends with its arguments and every semaphore as at the launch. -/
theorem frame_any {F : FTy → Type} [FloatOps F] (m : (ℓ : Loc KernelIdeal.nD KernelIdeal.τ KernelIdeal.sig) → Buf (Elt F) ℓ)
    (g : Dev KernelIdeal.nD → PrngReg) :
    θ_run (KernelIdeal.defs (F := F)) (onTc (τ := KernelIdeal.τ) (KernelIdeal.main (F := F))) ⟨m, fun _ => 0, g⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4)
      ∧ r.2.mem ((c.tc : Thread KernelIdeal.nD KernelIdeal.τ).loc KernelIdeal.main_arg5) = m ((c.tc : Thread KernelIdeal.nD KernelIdeal.τ).loc KernelIdeal.main_arg5)
      ∧ r.2.mem ((c.tc : Thread KernelIdeal.nD KernelIdeal.τ).loc KernelIdeal.main_arg6) = m ((c.tc : Thread KernelIdeal.nD KernelIdeal.τ).loc KernelIdeal.main_arg6)
      ∧ r.2.mem ((c.tc : Thread KernelIdeal.nD KernelIdeal.τ).loc KernelIdeal.main_arg7) = m ((c.tc : Thread KernelIdeal.nD KernelIdeal.τ).loc KernelIdeal.main_arg7)
      ∧ r.2.mem ((c.tc : Thread KernelIdeal.nD KernelIdeal.τ).loc KernelIdeal.main_arg8) = m ((c.tc : Thread KernelIdeal.nD KernelIdeal.τ).loc KernelIdeal.main_arg8)
      ∧ r.2.mem ((c.tc : Thread KernelIdeal.nD KernelIdeal.τ).loc KernelIdeal.main_arg9) = m ((c.tc : Thread KernelIdeal.nD KernelIdeal.τ).loc KernelIdeal.main_arg9))
      ∧ r.2.sem = fun _ => 0) :=
  (θ_run KernelIdeal.defs _ _).mono (fun _ h => ⟨fun c => (h.1 c).2, h.2⟩) (run m g)

/-- The kernel's frame at the bit-level instance, told of the ideal program's text, -/
def frameOfIdealText : Prop :=
  ∀ (m : (ℓ : Loc KernelIdeal.nD KernelIdeal.τ KernelIdeal.sig) → Buf (Elt Bits) ℓ) (g : Dev KernelIdeal.nD → PrngReg), True →
    θ_run (KernelIdeal.defs (F := Bits)) (onTc (τ := KernelIdeal.τ) (KernelIdeal.main (F := Bits))) ⟨m, fun _ => 0, g⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4)
      ∧ r.2.mem ((c.tc : Thread KernelIdeal.nD KernelIdeal.τ).loc KernelIdeal.main_arg5) = m ((c.tc : Thread KernelIdeal.nD KernelIdeal.τ).loc KernelIdeal.main_arg5)
      ∧ r.2.mem ((c.tc : Thread KernelIdeal.nD KernelIdeal.τ).loc KernelIdeal.main_arg6) = m ((c.tc : Thread KernelIdeal.nD KernelIdeal.τ).loc KernelIdeal.main_arg6)
      ∧ r.2.mem ((c.tc : Thread KernelIdeal.nD KernelIdeal.τ).loc KernelIdeal.main_arg7) = m ((c.tc : Thread KernelIdeal.nD KernelIdeal.τ).loc KernelIdeal.main_arg7)
      ∧ r.2.mem ((c.tc : Thread KernelIdeal.nD KernelIdeal.τ).loc KernelIdeal.main_arg8) = m ((c.tc : Thread KernelIdeal.nD KernelIdeal.τ).loc KernelIdeal.main_arg8)
      ∧ r.2.mem ((c.tc : Thread KernelIdeal.nD KernelIdeal.τ).loc KernelIdeal.main_arg9) = m ((c.tc : Thread KernelIdeal.nD KernelIdeal.τ).loc KernelIdeal.main_arg9))
      ∧ r.2.sem = fun _ => 0)

/-- and of the compiled program's. -/
def frameOfText : Prop :=
  ∀ (m : (ℓ : Loc Kernel.nD Kernel.τ Kernel.sig) → Buf (Elt Bits) ℓ) (g : Dev Kernel.nD → PrngReg), True →
    θ_run (Kernel.defs (F := Bits)) (onTc (τ := Kernel.τ) (Kernel.main (F := Bits))) ⟨m, fun _ => 0, g⟩ (fun r => (∀ c : Dev Kernel.nD,
      r.2.mem ((c.tc : Thread Kernel.nD Kernel.τ).loc Kernel.main_arg0) = m ((c.tc : Thread Kernel.nD Kernel.τ).loc Kernel.main_arg0)
      ∧ r.2.mem ((c.tc : Thread Kernel.nD Kernel.τ).loc Kernel.main_arg1) = m ((c.tc : Thread Kernel.nD Kernel.τ).loc Kernel.main_arg1)
      ∧ r.2.mem ((c.tc : Thread Kernel.nD Kernel.τ).loc Kernel.main_arg2) = m ((c.tc : Thread Kernel.nD Kernel.τ).loc Kernel.main_arg2)
      ∧ r.2.mem ((c.tc : Thread Kernel.nD Kernel.τ).loc Kernel.main_arg3) = m ((c.tc : Thread Kernel.nD Kernel.τ).loc Kernel.main_arg3)
      ∧ r.2.mem ((c.tc : Thread Kernel.nD Kernel.τ).loc Kernel.main_arg4) = m ((c.tc : Thread Kernel.nD Kernel.τ).loc Kernel.main_arg4)
      ∧ r.2.mem ((c.tc : Thread Kernel.nD Kernel.τ).loc Kernel.main_arg5) = m ((c.tc : Thread Kernel.nD Kernel.τ).loc Kernel.main_arg5)
      ∧ r.2.mem ((c.tc : Thread Kernel.nD Kernel.τ).loc Kernel.main_arg6) = m ((c.tc : Thread Kernel.nD Kernel.τ).loc Kernel.main_arg6)
      ∧ r.2.mem ((c.tc : Thread Kernel.nD Kernel.τ).loc Kernel.main_arg7) = m ((c.tc : Thread Kernel.nD Kernel.τ).loc Kernel.main_arg7)
      ∧ r.2.mem ((c.tc : Thread Kernel.nD Kernel.τ).loc Kernel.main_arg8) = m ((c.tc : Thread Kernel.nD Kernel.τ).loc Kernel.main_arg8)
      ∧ r.2.mem ((c.tc : Thread Kernel.nD Kernel.τ).loc Kernel.main_arg9) = m ((c.tc : Thread Kernel.nD Kernel.τ).loc Kernel.main_arg9))
      ∧ r.2.sem = fun _ => 0)

theorem texts_agree : frameOfIdealText = frameOfText := by sl_kernel_rfl

theorem frame_kernel : Cert.quiescent_Kernel :=
  show frameOfText from texts_agree ▸ (fun m g _ => frame_any m g : frameOfIdealText)

theorem frame_kernelIdeal : Cert.quiescent_KernelIdeal := fun m g _ => frame_any m g

/-- The reference declares no semaphore. -/
theorem frame_referenceIdeal : Cert.quiescent_ReferenceIdeal := fun m g _ =>
  (θ_run ReferenceIdeal.defs _ _).mono (fun r h => ⟨fun c => (h c).2, sem_eq_zero_of_no_sems (by decide) r.2⟩)
    (ReferenceIdeal.Value.run m g)

end Cert.Proof

end
-- ==== Proof.RefStages.lean ====
module

public import proofs.«01_k».proof.Proof.Gen.ReferenceIdeal.Run
public import Idealize.ShloMosaic.PureOps.Ideal

@[expose] public section

set_option maxRecDepth 16384

noncomputable section

namespace Cert.Proof.Ref

open Cert.ReferenceIdeal Cert.ReferenceIdeal.Gen
open Idealize.ShloMosaic Idealize.ShloMosaic.TcCoe

/-! The reference's composed term in named stages. -/

/-- The gate's logits. -/
def scores (x : FVec Ideal S10000x256 .f32) (wg : FVec Ideal S256x8 .f32) (bg : FVec Ideal S8 .f32) : FVec Ideal S10000x8 .f32 :=
  addf (Host.dotGeneral dot_S10000x256_S256x8_S10000x8_1_0_0_1_n_n none x wg)
    (broadcastInDim S10000x8 ![0, 1] bcast_S1x8_S10000x8_0_1 (broadcastInDim S1x8 ![1] bcast_S8_S1x8_1 bg))

/-- The exponentials under the softmax. -/
def powers (l : FVec Ideal S10000x8 .f32) : FVec Ideal S10000x8 .f32 :=
  Host.exp (subf l (broadcastInDim S10000x8 ![0, 1] bcast_S10000x1_S10000x8_0_1 (broadcastInDim S10000x1 ![0] bcast_S10000_S10000x1_0
    (maximumf (broadcastInDim S10000 ![] bcast_S_S10000 (constant S_ .f32 0xFF800000#32))
      (Host.reduce FloatOps.maximumf l (constant S_ .f32 0xFF800000#32) reducesTo_S10000x8_S10000_d1 h_S_)))))

/-- The softmax. -/
def softmax (l : FVec Ideal S10000x8 .f32) : FVec Ideal S10000x8 .f32 :=
  Host.divf (powers l) (broadcastInDim S10000x8 ![0, 1] bcast_S10000x1_S10000x8_0_1 (broadcastInDim S10000x1 ![0] bcast_S10000_S10000x1_0
    (Host.reduceAdd (powers l) (constant S_ .f32 0x00000000#32) reducesTo_S10000x8_S10000_d1 h_S_)))

/-- The two largest weights. -/
def values (p : FVec Ideal S10000x8 .f32) : FVec Ideal S10000x2 .f32 :=
  (Host.topK S10000x2 1 (FloatOps.cmpfTotal .gt) p sliceFits_S10000x8_S10000x2).1

/-- Where they stand. -/
def places (p : FVec Ideal S10000x8 .f32) : IVec S10000x2 32 :=
  (Host.topK S10000x2 1 (FloatOps.cmpfTotal .gt) p sliceFits_S10000x8_S10000x2).2

/-- The edges' first ends. -/
def sources (e : IVec S2x160000 32) : IVec S160000 32 :=
  shapeCast _ (extractStridedSlice S1x160000 ![0, 0] e slices_S2x160000_S1x160000_0_0) shapeCasts_S1x160000_S160000

/-- The edges' second ends. -/
def targets (e : IVec S2x160000 32) : IVec S160000 32 :=
  shapeCast _ (extractStridedSlice S1x160000 ![1, 0] e slices_S2x160000_S1x160000_1_0) shapeCasts_S1x160000_S160000

/-- A list of words as a column. -/
def column (i : IVec S160000 32) : IVec S160000x1 32 := broadcastInDim S160000x1 ![0] bcast_S160000_S160000x1_0 i

/-- The words with negative ones counted from the end. -/
def wrapped (i : IVec S160000 32) : IVec S160000x1 32 :=
  column (select (cmpi .slt i (broadcastInDim S160000 ![] bcast_S_S160000 (constantI S_ 32 0#32)))
    (addi i (broadcastInDim S160000 ![] bcast_S_S160000 (constantI S_ 32 10000#32))) i)

/-- Which words name a row. -/
def inside (w : IVec S160000x1 32) : IVec S160000 1 :=
  Host.reduce IntOp.andi (andi (cmpi .sge w (broadcastInDim S160000x1 ![] bcast_S_S160000x1 (constantI S_ 32 0#32)))
    (cmpi .sle w (broadcastInDim S160000x1 ![0, 1] bcast_S1x1_S160000x1_0_1 (broadcastInDim S1x1 ![1] bcast_S1_S1x1_1 (constantI S1 32 9999#32)))))
    (constantI S_ 1 1#1) reducesTo_S160000x1_S160000_d1 h_S_

/-- The rows a list of words names. -/
def rows (x : FVec Ideal S10000x256 .f32) (i : IVec S160000 32) : FVec Ideal S160000x256 .f32 :=
  select (broadcastInDim S160000x256 ![0] bcast_S160000_S160000x256_0 (inside (wrapped i)))
    (Host.gather gather_S10000x256_S160000x1_S160000x256_1_0_n_n_0_1_1256 x (wrapped i))
    (broadcastInDim S160000x256 ![] bcast_S_S160000x256 (constant S_ .f32 0x7FC00000#32))

/-- The same for every expert. -/
def rows8 (x : FVec Ideal S8x10000x256 .f32) (i : IVec S160000 32) : FVec Ideal S8x160000x256 .f32 :=
  select (broadcastInDim S8x160000x256 ![1] bcast_S160000_S8x160000x256_1 (inside (wrapped i)))
    (Host.gather gather_S8x10000x256_S160000x1_S8x160000x256_02_1_n_n_1_1_81256 x (wrapped i))
    (broadcastInDim S8x160000x256 ![] bcast_S_S8x160000x256 (constant S_ .f32 0x7FC00000#32))

/-- The neighbours' sums. -/
def sums (y : FVec Ideal S160000x256 .f32) (t : IVec S160000 32) : FVec Ideal S10000x256 .f32 :=
  Host.scatterAdd scatter_S10000x256_S160000x1_S160000x256_1_0_0_1
    (broadcastInDim S10000x256 ![] bcast_S_S10000x256 (constant S_ .f32 0x00000000#32)) (column t) y

/-- The same for every expert. -/
def sums8 (y : FVec Ideal S8x160000x256 .f32) (t : IVec S160000 32) : FVec Ideal S8x10000x256 .f32 :=
  Host.scatterAdd scatter_S8x10000x256_S160000x1_S8x160000x256_02_1_1_1
    (broadcastInDim S8x10000x256 ![1, 2] bcast_S10000x256_S8x10000x256_1_2
      (broadcastInDim S10000x256 ![] bcast_S_S10000x256 (constant S_ .f32 0x00000000#32))) (column t) y

/-- How many edges end at each node. -/
def counts (t : IVec S160000 32) : FVec Ideal S10000 .f32 :=
  Host.scatterAdd scatter_S10000_S160000x1_S160000_n_0_0_1
    (broadcastInDim S10000 ![] bcast_S_S10000 (constant S_ .f32 0x00000000#32)) (column t)
    (broadcastInDim S160000 ![] bcast_S_S160000 (constant S_ .f32 0x3F800000#32))

/-- The degrees: the counts, at least one. -/
def degrees (n : FVec Ideal S10000 .f32) : FVec Ideal S10000 .f32 :=
  maximumf n (broadcastInDim S10000 ![] bcast_S_S10000 (constant S_ .f32 0x3F800000#32))

/-- The neighbours' means. -/
def means (s : FVec Ideal S10000x256 .f32) (g : FVec Ideal S10000 .f32) : FVec Ideal S10000x256 .f32 :=
  Host.divf s (broadcastInDim S10000x256 ![0, 1] bcast_S10000x1_S10000x256_0_1 (broadcastInDim S10000x1 ![0] bcast_S10000_S10000x1_0 g))

/-- The same for every expert. -/
def means8 (s : FVec Ideal S8x10000x256 .f32) (g : FVec Ideal S10000 .f32) : FVec Ideal S8x10000x256 .f32 :=
  Host.divf s (broadcastInDim S8x10000x256 ![0, 1, 2] bcast_S1x10000x1_S8x10000x256_0_1_2
    (broadcastInDim S1x10000x1 ![1, 2] bcast_S10000x1_S1x10000x1_1_2 (broadcastInDim S10000x1 ![0] bcast_S10000_S10000x1_0 g)))

/-- Rows times every expert's matrix. -/
def spread (x : FVec Ideal S10000x256 .f32) (w : FVec Ideal S8x256x256 .f32) : FVec Ideal S8x10000x256 .f32 :=
  transpose S8x10000x256 [1, 0, 2] (Host.dotGeneral dot_S10000x256_S8x256x256_S10000x8x256_1_1_0_02_n_n none x w)
    transposes_S10000x8x256_S8x10000x256_1_0_2

/-- An expert's rows times its matrix. -/
def product (x : FVec Ideal S8x10000x256 .f32) (w : FVec Ideal S8x256x256 .f32) : FVec Ideal S8x10000x256 .f32 :=
  Host.dotGeneral dot_S8x10000x256_S8x256x256_S8x10000x256_2_1_1_2_0_0 none x w

/-- Left product, bias, right product, and the positive part. -/
def layer (l : FVec Ideal S8x10000x256 .f32) (b : FVec Ideal S8x256 .f32) (r : FVec Ideal S8x10000x256 .f32) : FVec Ideal S8x10000x256 .f32 :=
  maximumf (addf (addf l (broadcastInDim S8x10000x256 ![0, 1, 2] bcast_S8x1x256_S8x10000x256_0_1_2
    (broadcastInDim S8x1x256 ![0, 2] bcast_S8x256_S8x1x256_0_2 b))) r)
    (broadcastInDim S8x10000x256 ![] bcast_S_S8x10000x256 (constant S_ .f32 0x00000000#32))

/-- The places as a last column, negative ones counted from the end. -/
def chosenWords (i : IVec S10000x2 32) : IVec S10000x2x1 32 :=
  select (cmpi .slt (broadcastInDim S10000x2x1 ![0, 1] bcast_S10000x2_S10000x2x1_0_1 i)
      (broadcastInDim S10000x2x1 ![] bcast_S_S10000x2x1 (constantI S_ 32 0#32)))
    (addi (broadcastInDim S10000x2x1 ![0, 1] bcast_S10000x2_S10000x2x1_0_1 i)
      (broadcastInDim S10000x2x1 ![] bcast_S_S10000x2x1 (constantI S_ 32 8#32)))
    (broadcastInDim S10000x2x1 ![0, 1] bcast_S10000x2_S10000x2x1_0_1 i)

/-- Which places name an expert. -/
def inside2 (w : IVec S10000x2x1 32) : IVec S10000x2 1 :=
  Host.reduce IntOp.andi (andi (cmpi .sge w (broadcastInDim S10000x2x1 ![] bcast_S_S10000x2x1 (constantI S_ 32 0#32)))
    (cmpi .sle w (broadcastInDim S10000x2x1 ![0, 1, 2] bcast_S1x1x1_S10000x2x1_0_1_2
      (broadcastInDim S1x1x1 ![2] bcast_S1_S1x1x1_2 (constantI S1 32 7#32)))))
    (constantI S_ 1 1#1) reducesTo_S10000x2x1_S10000x2_d2 h_S_

/-- The two chosen experts' rows. -/
def picked (y : FVec Ideal S8x10000x256 .f32) (i : IVec S10000x2 32) : FVec Ideal S10000x2x256 .f32 :=
  select (broadcastInDim S10000x2x256 ![0, 1] bcast_S10000x2_S10000x2x256_0_1 (inside2 (chosenWords i)))
    (Host.gather gather_S10000x8x256_S10000x2x1_S10000x2x256_2_1_0_0_1_2_11256
      (transpose S10000x8x256 [1, 0, 2] y transposes_S8x10000x256_S10000x8x256_1_0_2) (chosenWords i))
    (broadcastInDim S10000x2x256 ![] bcast_S_S10000x2x256 (constant S_ .f32 0x7FC00000#32))

/-- Their weighted sum. -/
def blend (y : FVec Ideal S10000x2x256 .f32) (v : FVec Ideal S10000x2 .f32) : FVec Ideal S10000x256 .f32 :=
  Host.reduceAdd (mulf y (broadcastInDim S10000x2x256 ![0, 1, 2] bcast_S10000x2x1_S10000x2x256_0_1_2
    (broadcastInDim S10000x2x1 ![0, 1] bcast_S10000x2_S10000x2x1_0_1 v))) (constant S_ .f32 0x00000000#32)
    reducesTo_S10000x2x256_S10000x256_d1 h_S_

/-- The first layer of every expert. -/
def first1 (x : FVec Ideal S10000x256 .f32) (e : IVec S2x160000 32) (wl : FVec Ideal S8x256x256 .f32) (bl : FVec Ideal S8x256 .f32)
    (wr : FVec Ideal S8x256x256 .f32) : FVec Ideal S8x10000x256 .f32 :=
  layer (spread (means (sums (rows x (sources e)) (targets e)) (degrees (counts (targets e)))) wl) bl (spread x wr)

/-- The second layer of every expert. -/
def second2 (h : FVec Ideal S8x10000x256 .f32) (e : IVec S2x160000 32) (wl : FVec Ideal S8x256x256 .f32) (bl : FVec Ideal S8x256 .f32)
    (wr : FVec Ideal S8x256x256 .f32) : FVec Ideal S8x10000x256 .f32 :=
  layer (product (means8 (sums8 (rows8 h (sources e)) (targets e)) (degrees (counts (targets e)))) wl) bl (product h wr)

set_option maxHeartbeats 2000000 in
theorem res_stages (m : (ℓ : Loc nD τ sig) → Buf (Elt Ideal) ℓ) (c : Dev nD) :
    Value.res_main_v73 m c
      = blend (picked (second2 (first1 (m ((c.tc : Thread nD τ).loc main_arg0)) (m ((c.tc : Thread nD τ).loc main_arg1))
            (m ((c.tc : Thread nD τ).loc main_arg4)) (m ((c.tc : Thread nD τ).loc main_arg5)) (m ((c.tc : Thread nD τ).loc main_arg6)))
            (m ((c.tc : Thread nD τ).loc main_arg1)) (m ((c.tc : Thread nD τ).loc main_arg7)) (m ((c.tc : Thread nD τ).loc main_arg8))
            (m ((c.tc : Thread nD τ).loc main_arg9)))
          (places (softmax (scores (m ((c.tc : Thread nD τ).loc main_arg0)) (m ((c.tc : Thread nD τ).loc main_arg2)) (m ((c.tc : Thread nD τ).loc main_arg3))))))
        (values (softmax (scores (m ((c.tc : Thread nD τ).loc main_arg0)) (m ((c.tc : Thread nD τ).loc main_arg2)) (m ((c.tc : Thread nD τ).loc main_arg3))))) := by
  unfold Value.res_main_v73
  rfl

end Cert.Proof.Ref
-- ==== Proof.HostStages.lean ====
module

public import proofs.«01_k».proof.Proof.Run
public import proofs.«01_k».proof.Proof.RefStages

@[expose] public section

set_option maxRecDepth 16384

noncomputable section

namespace Cert.Proof

open Cert.KernelIdeal Cert.KernelIdeal.Gen
open Idealize.ShloMosaic Idealize.ShloMosaic.TcCoe Idealize.ShloMosaic.StableHlo

/-! What the operations between the calls write, as functions of the contents they start from. The operations the two programs
share keep the names they have on the reference's side. -/

/-- The reciprocals of the degrees, as a column. -/
def recips (n : FVec Ideal S10000 .f32) : FVec Ideal S10000x1 .f32 :=
  broadcastInDim S10000x1 ![0] bcast_S10000_S10000x1_0
    (Host.divf (broadcastInDim S10000 ![] bcast_S_S10000 (constant S_ .f32 0x3F800000#32)) (Ref.degrees n))

/-- The scaled sums sideBySide the features. -/
def sideBySide (s : FVec Ideal S10000x256 .f32) (r : FVec Ideal S10000x1 .f32) (x : FVec Ideal S10000x256 .f32) : FVec Ideal S10000x512 .f32 :=
  concatenate S10000x512 1 [⟨S10000x256, mulf s (broadcastInDim S10000x256 ![0, 1] bcast_S10000x1_S10000x256_0_1 r)⟩, ⟨S10000x256, x⟩]
    concatenates_S10000x256_S10000x256_S10000x512_d1

/-- One matrix above the other. -/
def above (a b : FVec Ideal S8x256x256 .f32) : FVec Ideal S8x512x256 .f32 :=
  concatenate S8x512x256 1 [⟨S8x256x256, a⟩, ⟨S8x256x256, b⟩] concatenates_S8x256x256_S8x256x256_S8x512x256_d1

/-- A bias with a middle axis of one. -/
def lifted (b : FVec Ideal S8x256 .f32) : FVec Ideal S8x1x256 .f32 := broadcastInDim S8x1x256 ![0, 2] bcast_S8x256_S8x1x256_0_2 b

/-- The experts' rows one expert after the other. -/
def stacked (y : FVec Ideal S8x10000x256 .f32) : FVec Ideal S80000x256 .f32 := shapeCast _ y shapeCasts_S8x10000x256_S80000x256

/-- Where each of a node's two experts starts among the stacked rows. -/
def starts (p : IVec S10000x8 32) : IVec S10000x2 32 :=
  muli (extractStridedSlice S10000x2 ![0, 0] p slices_S10000x8_S10000x2_0_0) (broadcastInDim S10000x2 ![] bcast_S_S10000x2 (constantI S_ 32 10000#32))

/-- The pairs a list of words names. -/
def pairs (p : IVec S10000x2 32) (i : IVec S160000 32) : IVec S160000x2 32 :=
  select (broadcastInDim S160000x2 ![0] bcast_S160000_S160000x2_0 (Ref.inside (Ref.wrapped i)))
    (Host.gather gather_S10000x2_S160000x1_S160000x2_1_0_n_n_0_1_12 p (Ref.wrapped i))
    (broadcastInDim S160000x2 ![] bcast_S_S160000x2 (constantI S_ 32 2147483648#32))

/-- One list after another. -/
def after2 (a b : IVec S160000 32) : IVec S320000 32 :=
  concatenate S320000 0 [⟨S160000, a⟩, ⟨S160000, b⟩] concatenates_S160000_S160000_S320000_d0

/-- The stacked row each edge reads, for both choices. -/
def reads (q : IVec S160000x2 32) (s : IVec S160000 32) : IVec S320000 32 :=
  after2 (addi (shapeCast _ (extractStridedSlice S160000x1 ![0, 0] q slices_S160000x2_S160000x1_0_0) shapeCasts_S160000x1_S160000) s)
    (addi (shapeCast _ (extractStridedSlice S160000x1 ![0, 1] q slices_S160000x2_S160000x1_0_1) shapeCasts_S160000x1_S160000) s)

/-- The row each edge adds into, for both choices. -/
def writes (t : IVec S160000 32) : IVec S320000 32 :=
  after2 t (addi t (broadcastInDim S160000 ![] bcast_S_S160000 (constantI S_ 32 10000#32)))

/-- A list of words as a column. -/
def column2 (i : IVec S320000 32) : IVec S320000x1 32 := broadcastInDim S320000x1 ![0] bcast_S320000_S320000x1_0 i

/-- The words with negative ones counted from the end. -/
def wrapped2 (i : IVec S320000 32) : IVec S320000x1 32 :=
  column2 (select (cmpi .slt i (broadcastInDim S320000 ![] bcast_S_S320000 (constantI S_ 32 0#32)))
    (addi i (broadcastInDim S320000 ![] bcast_S_S320000 (constantI S_ 32 80000#32))) i)

/-- Which words name a stacked row. -/
def inside3 (w : IVec S320000x1 32) : IVec S320000 1 :=
  Host.reduce IntOp.andi (andi (cmpi .sge w (broadcastInDim S320000x1 ![] bcast_S_S320000x1 (constantI S_ 32 0#32)))
    (cmpi .sle w (broadcastInDim S320000x1 ![0, 1] bcast_S1x1_S320000x1_0_1 (broadcastInDim S1x1 ![1] bcast_S1_S1x1_1 (constantI S1 32 79999#32)))))
    (constantI S_ 1 1#1) reducesTo_S320000x1_S320000_d1 h_S_

/-- The stacked rows a list of words names. -/
def rows2 (x : FVec Ideal S80000x256 .f32) (i : IVec S320000 32) : FVec Ideal S320000x256 .f32 :=
  select (broadcastInDim S320000x256 ![0] bcast_S320000_S320000x256_0 (inside3 (wrapped2 i)))
    (Host.gather gather_S80000x256_S320000x1_S320000x256_1_0_n_n_0_1_1256 x (wrapped2 i))
    (broadcastInDim S320000x256 ![] bcast_S_S320000x256 (constant S_ .f32 0x7FC00000#32))

/-- Both choices' sums, one above the other. -/
def sums2 (y : FVec Ideal S320000x256 .f32) (t : IVec S320000 32) : FVec Ideal S20000x256 .f32 :=
  Host.scatterAdd scatter_S20000x256_S320000x1_S320000x256_1_0_0_1
    (broadcastInDim S20000x256 ![] bcast_S_S20000x256 (constant S_ .f32 0x00000000#32)) (column2 t) y

/-- The first choice's sums. -/
def upper (y : FVec Ideal S20000x256 .f32) : FVec Ideal S10000x256 .f32 := extractStridedSlice S10000x256 ![0, 0] y slices_S20000x256_S10000x256_0_0

/-- The second choice's sums. -/
def lower (y : FVec Ideal S20000x256 .f32) : FVec Ideal S10000x256 .f32 :=
  extractStridedSlice S10000x256 ![10000, 0] y slices_S20000x256_S10000x256_10000_0

variable (V : Valuation τ sig (Elt Ideal))

theorem after0_v1 : after hostOps0 V main_v1 = Ref.sources (V main_arg1) := by
  simp only [hostOps0]; after_results_simp <;> rfl

theorem after0_v3 : after hostOps0 V main_v3 = Ref.targets (V main_arg1) := by
  simp only [hostOps0]; after_results_simp <;> rfl

theorem after1_v8 : after hostOps1 V main_v8 = Ref.counts (V main_v3) := by
  simp only [hostOps1]; after_results_simp <;> rfl

theorem after1_1_v9 : after hostOps1_1 V main_v9 = Ref.rows (V main_arg0) (V main_v1) := by
  simp only [hostOps1_1, TRef.binary, TRef.nullary, TRef.ternary, TRef.unary, TRef.toBuf, TRef.ofBuf, cast_eq]
  after_results_simp <;> rfl

theorem after1_2_v17 : after hostOps1_2 V main_v17 = recips (V main_v8) := by
  simp only [hostOps1_2]; after_results_simp <;> rfl

theorem after1_2_v20 : after hostOps1_2 V main_v20 = sideBySide (Ref.sums (V main_v9) (V main_v3)) (recips (V main_v8)) (V main_arg0) := by
  simp only [hostOps1_2]; after_results_simp <;> rfl

theorem after1_2_v21 : after hostOps1_2 V main_v21 = above (V main_arg4) (V main_arg6) := by
  simp only [hostOps1_2]; after_results_simp <;> rfl

theorem after1_2_v22 : after hostOps1_2 V main_v22 = lifted (V main_arg5) := by
  simp only [hostOps1_2]; after_results_simp <;> rfl

theorem after2_v24 : after hostOps2 V main_v24 = stacked (V main_v23_0) := by
  simp only [hostOps2]; after_results_simp <;> rfl

theorem after2_v27 : after hostOps2 V main_v27 = starts (V main_v4_3) := by
  simp only [hostOps2]; after_results_simp <;> rfl

theorem after2_1_v28 : after hostOps2_1 V main_v28 = pairs (V main_v27) (V main_v3) := by
  simp only [hostOps2_1, TRef.binary, TRef.nullary, TRef.ternary, TRef.unary, TRef.toBuf, TRef.ofBuf, cast_eq]
  after_results_simp <;> rfl

theorem after2_2_v35 : after hostOps2_2 V main_v35 = reads (V main_v28) (V main_v1) := by
  simp only [hostOps2_2]; after_results_simp <;> rfl

theorem after2_2_v38 : after hostOps2_2 V main_v38 = writes (V main_v3) := by
  simp only [hostOps2_2]; after_results_simp <;> rfl

theorem after2_3_v39 : after hostOps2_3 V main_v39 = rows2 (V main_v24) (V main_v35) := by
  simp only [hostOps2_3, TRef.binary, TRef.nullary, TRef.ternary, TRef.unary, TRef.toBuf, TRef.ofBuf, cast_eq]
  after_results_simp <;> rfl

theorem after2_4_v43 : after hostOps2_4 V main_v43 = upper (sums2 (V main_v39) (V main_v38)) := by
  simp only [hostOps2_4]; after_results_simp <;> rfl

theorem after2_4_v44 : after hostOps2_4 V main_v44 = lower (sums2 (V main_v39) (V main_v38)) := by
  simp only [hostOps2_4]; after_results_simp <;> rfl

end Cert.Proof
-- ==== Proof.Rows.lean ====
module

public import Idealize.ShloMosaic.Lib.Pointwise
public import Idealize.ShloMosaic.Lib.Routing.Ops
public import Idealize.ShloMosaic.Lib.Routing.OpsPair
public import Idealize.ShloMosaic.Lib.Pointwise.IndexBridge

@[expose] public section

noncomputable section

namespace Cert.Proof

open Idealize.ShloMosaic
open Finset

/-! Taking rows by a table of words, and adding rows into the rows a table of words names. -/

theorem toInt_word {b R : ℕ} (hb : b < R) (hR : R ≤ 2 ^ 31) : (BitVec.ofNat 32 b).toInt = (b : ℤ) :=
  StableHlo.Predicate.toInt_ofNat_small _ (by omega)

/-! ## Taking -/

/-- Row `b` of a table, where the word names it. -/
theorem take_row {α : Type} {R C E : ℕ} (d : GatherDims ⟨2, ![R, C]⟩ ⟨2, ![E, 1]⟩ ⟨2, ![E, C]⟩) (hoff : d.offsetDims = [1])
    (hcoll : d.collapsedSliceDims = [0]) (hob : d.operandBatchingDims = []) (hsim : d.startIndexMap = [0]) (hivd : d.indexVectorDim = 1)
    (hR : R < 2 ^ 31) (x : (⟨2, ![R, C]⟩ : Shape).Idx → α) (idx : IVec ⟨2, ![E, 1]⟩ 32) (j : Fin E) (b : Fin R)
    (hb : idx (ix2 j 0) = BitVec.ofNat 32 b) (c : Fin C) : Host.gather d x idx (ix2 j c) = x (ix2 b c) := by
  rw [ix2_eq_valueIdx, ix2_eq_valueIdx]
  exact Routing.gather_row d hoff hcoll hob hsim hivd x idx j c b (by rw [← ix2_eq_valueIdx]; exact hb) hR

/-- The dimension numbers of taking along the middle axis of three. -/
abbrev middleTake (A R C E : ℕ)
    (wf : GatherDims.WF ⟨3, ![A, R, C]⟩ ⟨2, ![E, 1]⟩ ⟨3, ![A, E, C]⟩ [0, 2] [1] [] [1] [] 1 ![A, 1, C]) :
    GatherDims ⟨3, ![A, R, C]⟩ ⟨2, ![E, 1]⟩ ⟨3, ![A, E, C]⟩ where
  offsetDims := [0, 2]
  collapsedSliceDims := [1]
  operandBatchingDims := []
  startIndicesBatchingDims := []
  startIndexMap := [1]
  indexVectorDim := 1
  sliceSizes := ![A, 1, C]
  wf := wf

theorem take_middle {α : Type} {A R C E : ℕ}
    (wf : GatherDims.WF ⟨3, ![A, R, C]⟩ ⟨2, ![E, 1]⟩ ⟨3, ![A, E, C]⟩ [0, 2] [1] [] [1] [] 1 ![A, 1, C])
    (hR : R < 2 ^ 31) (x : (⟨3, ![A, R, C]⟩ : Shape).Idx → α) (idx : IVec ⟨2, ![E, 1]⟩ 32) (j : Fin E) (b : Fin R)
    (hb : idx (ix2 j 0) = BitVec.ofNat 32 b) (a : Fin A) (c : Fin C) :
    Host.gather (middleTake A R C E wf) x idx (ix3 a j c) = x (ix3 a b c) := by
  unfold Host.gather
  refine congrArg x (funext fun i => Fin.ext ?_)
  show (middleTake A R C E wf).start (ix3 a j c) idx i + (middleTake A R C E wf).batchCoord (ix3 a j c) i
      + (middleTake A R C E wf).offCoord (ix3 a j c) i = _
  rw [GatherDims.batchCoord_eq_zero _ _ _ (by simp)]
  match i with
  | ⟨0, _⟩ => show 0 + 0 + a.val = a.val; omega
  | ⟨2, _⟩ => show 0 + 0 + c.val = c.val; omega
  | ⟨1, _⟩ =>
    show min (idx ((middleTake A R C E wf).siIdx (ix3 a j c) ⟨0, by simp⟩)).toInt.toNat (R - 1) + 0 + 0 = b.val
    have hs : (middleTake A R C E wf).siIdx (ix3 a j c) ⟨0, by simp⟩ = ix2 j 0 := by
      funext k
      match k with
      | ⟨0, _⟩ => rfl
      | ⟨1, _⟩ => rfl
    rw [hs, hb, toInt_word b.isLt hR.le]
    have := b.isLt
    omega

/-- The dimension numbers of taking, in each slice of the first axis, along the middle axis by that slice's own words. -/
abbrev alongTake (N R C E : ℕ)
    (wf : GatherDims.WF ⟨3, ![N, R, C]⟩ ⟨3, ![N, E, 1]⟩ ⟨3, ![N, E, C]⟩ [2] [1] [0] [1] [0] 2 ![1, 1, C]) :
    GatherDims ⟨3, ![N, R, C]⟩ ⟨3, ![N, E, 1]⟩ ⟨3, ![N, E, C]⟩ where
  offsetDims := [2]
  collapsedSliceDims := [1]
  operandBatchingDims := [0]
  startIndicesBatchingDims := [0]
  startIndexMap := [1]
  indexVectorDim := 2
  sliceSizes := ![1, 1, C]
  wf := wf

theorem take_along {α : Type} {N R C E : ℕ}
    (wf : GatherDims.WF ⟨3, ![N, R, C]⟩ ⟨3, ![N, E, 1]⟩ ⟨3, ![N, E, C]⟩ [2] [1] [0] [1] [0] 2 ![1, 1, C])
    (hR : R < 2 ^ 31) (x : (⟨3, ![N, R, C]⟩ : Shape).Idx → α) (idx : IVec ⟨3, ![N, E, 1]⟩ 32) (n : Fin N) (s : Fin E) (b : Fin R)
    (hb : idx (ix3 n s 0) = BitVec.ofNat 32 b) (c : Fin C) :
    Host.gather (alongTake N R C E wf) x idx (ix3 n s c) = x (ix3 n b c) := by
  unfold Host.gather
  refine congrArg x (funext fun i => Fin.ext ?_)
  show (alongTake N R C E wf).start (ix3 n s c) idx i + (alongTake N R C E wf).batchCoord (ix3 n s c) i
      + (alongTake N R C E wf).offCoord (ix3 n s c) i = _
  match i with
  | ⟨0, _⟩ => show 0 + n.val + 0 = n.val; omega
  | ⟨2, _⟩ => show 0 + 0 + c.val = c.val; omega
  | ⟨1, _⟩ =>
    show min (idx ((alongTake N R C E wf).siIdx (ix3 n s c) ⟨0, by simp⟩)).toInt.toNat (R - 1) + 0 + 0 = b.val
    have hs : (alongTake N R C E wf).siIdx (ix3 n s c) ⟨0, by simp⟩ = ix3 n s 0 := by
      funext k
      match k with
      | ⟨0, _⟩ => rfl
      | ⟨1, _⟩ => rfl
      | ⟨2, _⟩ => rfl
    rw [hs, hb, toInt_word b.isLt hR.le]
    have := b.isLt
    omega

/-! ## Adding -/

/-- The dimension numbers of adding numbers into the places a table of words names. -/
abbrev pointAdd (R E : ℕ) (wf : ScatterDims.WF ⟨1, ![R]⟩ ⟨2, ![E, 1]⟩ ⟨1, ![E]⟩ [] [0] [0] 1) :
    ScatterDims ⟨1, ![R]⟩ ⟨2, ![E, 1]⟩ ⟨1, ![E]⟩ where
  updateWindowDims := []
  insertedWindowDims := [0]
  scatterDimsToOperandDims := [0]
  indexVectorDim := 1
  wf := wf

/-- The dimension numbers of adding rows into the rows a table of words names. -/
abbrev rowAdd (R C E : ℕ) (wf : ScatterDims.WF ⟨2, ![R, C]⟩ ⟨2, ![E, 1]⟩ ⟨2, ![E, C]⟩ [1] [0] [0] 1) :
    ScatterDims ⟨2, ![R, C]⟩ ⟨2, ![E, 1]⟩ ⟨2, ![E, C]⟩ where
  updateWindowDims := [1]
  insertedWindowDims := [0]
  scatterDimsToOperandDims := [0]
  indexVectorDim := 1
  wf := wf

/-- The dimension numbers of the same in every slice of a first axis at once. -/
abbrev middleAdd (A R C E : ℕ) (wf : ScatterDims.WF ⟨3, ![A, R, C]⟩ ⟨2, ![E, 1]⟩ ⟨3, ![A, E, C]⟩ [0, 2] [1] [1] 1) :
    ScatterDims ⟨3, ![A, R, C]⟩ ⟨2, ![E, 1]⟩ ⟨3, ![A, E, C]⟩ where
  updateWindowDims := [0, 2]
  insertedWindowDims := [1]
  scatterDimsToOperandDims := [1]
  indexVectorDim := 1
  wf := wf

section Adding

variable {A R C E : ℕ} (hR : R ≤ 2 ^ 31) (idx : IVec ⟨2, ![E, 1]⟩ 32) (k : Fin E → Fin R)
  (hk : ∀ j, idx (ix2 j 0) = BitVec.ofNat 32 (k j))
include hR hk

theorem point_lands (wf : ScatterDims.WF ⟨1, ![R]⟩ ⟨2, ![E, 1]⟩ ⟨1, ![E]⟩ [] [0] [0] 1) (j : Fin E) (r : Fin R) :
    (pointAdd R E wf).resultIdx? (ix1 j) idx = some (ix1 r) ↔ k j = r := by
  rw [Routing.resultIdx?_eq_some]
  have hs : (pointAdd R E wf).siIdx (ix1 j) ⟨0, by simp⟩ = ix2 j 0 := by
    funext i
    match i with
    | ⟨0, _⟩ => rfl
    | ⟨1, _⟩ => rfl
  have s0 : (pointAdd R E wf).start (ix1 j) idx 0 = ((k j).val : ℤ) := by
    show (idx ((pointAdd R E wf).siIdx (ix1 j) ⟨0, by simp⟩)).toInt = _
    rw [hs, hk, toInt_word (k j).isLt hR]
  have w0 : (pointAdd R E wf).window (ix1 j) 0 = 0 := rfl
  constructor
  · intro h
    have h0 := h 0
    rw [s0, w0] at h0
    have h0' : ((k j).val : ℤ) + ((0 : ℕ) : ℤ) = (r.val : ℤ) := h0
    exact Fin.ext (by omega)
  · rintro rfl i
    match i with
    | ⟨0, _⟩ =>
      show (pointAdd R E wf).start (ix1 j) idx 0 + ((pointAdd R E wf).window (ix1 j) 0 : ℤ) = ((k j).val : ℤ)
      rw [s0, w0]; simp

theorem row_lands (wf : ScatterDims.WF ⟨2, ![R, C]⟩ ⟨2, ![E, 1]⟩ ⟨2, ![E, C]⟩ [1] [0] [0] 1) (j : Fin E) (c : Fin C) (r : Fin R)
    (d : Fin C) : (rowAdd R C E wf).resultIdx? (ix2 j c) idx = some (ix2 r d) ↔ k j = r ∧ c = d := by
  rw [Routing.resultIdx?_eq_some]
  have hs : (rowAdd R C E wf).siIdx (ix2 j c) ⟨0, by simp⟩ = ix2 j 0 := by
    funext i
    match i with
    | ⟨0, _⟩ => rfl
    | ⟨1, _⟩ => rfl
  have s0 : (rowAdd R C E wf).start (ix2 j c) idx 0 = ((k j).val : ℤ) := by
    show (idx ((rowAdd R C E wf).siIdx (ix2 j c) ⟨0, by simp⟩)).toInt = _
    rw [hs, hk, toInt_word (k j).isLt hR]
  have s1 : (rowAdd R C E wf).start (ix2 j c) idx 1 = 0 := rfl
  have w0 : (rowAdd R C E wf).window (ix2 j c) 0 = 0 := rfl
  have w1 : (rowAdd R C E wf).window (ix2 j c) 1 = c.val := rfl
  constructor
  · intro h
    have h0 : ((k j).val : ℤ) + ((0 : ℕ) : ℤ) = (r.val : ℤ) := by rw [← s0]; exact h 0
    have h1 : (0 : ℤ) + (c.val : ℤ) = (d.val : ℤ) := by rw [← s1, ← w1]; exact h 1
    exact ⟨Fin.ext (by omega), Fin.ext (by omega)⟩
  · rintro ⟨rfl, rfl⟩ i
    match i with
    | ⟨0, _⟩ =>
      show (rowAdd R C E wf).start (ix2 j c) idx 0 + ((rowAdd R C E wf).window (ix2 j c) 0 : ℤ) = ((k j).val : ℤ)
      rw [s0, w0]; simp
    | ⟨1, _⟩ =>
      show (rowAdd R C E wf).start (ix2 j c) idx 1 + ((rowAdd R C E wf).window (ix2 j c) 1 : ℤ) = (c.val : ℤ)
      rw [s1, w1]; simp

theorem middle_lands (wf : ScatterDims.WF ⟨3, ![A, R, C]⟩ ⟨2, ![E, 1]⟩ ⟨3, ![A, E, C]⟩ [0, 2] [1] [1] 1) (b : Fin A) (j : Fin E)
    (c : Fin C) (a : Fin A) (r : Fin R) (d : Fin C) :
    (middleAdd A R C E wf).resultIdx? (ix3 b j c) idx = some (ix3 a r d) ↔ b = a ∧ k j = r ∧ c = d := by
  rw [Routing.resultIdx?_eq_some]
  have hs : (middleAdd A R C E wf).siIdx (ix3 b j c) ⟨0, by simp⟩ = ix2 j 0 := by
    funext i
    match i with
    | ⟨0, _⟩ => rfl
    | ⟨1, _⟩ => rfl
  have s0 : (middleAdd A R C E wf).start (ix3 b j c) idx 0 = 0 := rfl
  have s1 : (middleAdd A R C E wf).start (ix3 b j c) idx 1 = ((k j).val : ℤ) := by
    show (idx ((middleAdd A R C E wf).siIdx (ix3 b j c) ⟨0, by simp⟩)).toInt = _
    rw [hs, hk, toInt_word (k j).isLt hR]
  have s2 : (middleAdd A R C E wf).start (ix3 b j c) idx 2 = 0 := rfl
  have w0 : (middleAdd A R C E wf).window (ix3 b j c) 0 = b.val := rfl
  have w1 : (middleAdd A R C E wf).window (ix3 b j c) 1 = 0 := rfl
  have w2 : (middleAdd A R C E wf).window (ix3 b j c) 2 = c.val := rfl
  constructor
  · intro h
    have h0 : (0 : ℤ) + (b.val : ℤ) = (a.val : ℤ) := by rw [← s0, ← w0]; exact h 0
    have h1 : ((k j).val : ℤ) + ((0 : ℕ) : ℤ) = (r.val : ℤ) := by rw [← s1]; exact h 1
    have h2 : (0 : ℤ) + (c.val : ℤ) = (d.val : ℤ) := by rw [← s2, ← w2]; exact h 2
    exact ⟨Fin.ext (by omega), Fin.ext (by omega), Fin.ext (by omega)⟩
  · rintro ⟨rfl, rfl, rfl⟩ i
    match i with
    | ⟨0, _⟩ =>
      show (middleAdd A R C E wf).start (ix3 b j c) idx 0 + ((middleAdd A R C E wf).window (ix3 b j c) 0 : ℤ) = (b.val : ℤ)
      rw [s0, w0]; simp
    | ⟨1, _⟩ =>
      show (middleAdd A R C E wf).start (ix3 b j c) idx 1 + ((middleAdd A R C E wf).window (ix3 b j c) 1 : ℤ) = ((k j).val : ℤ)
      rw [s1, w1]; simp
    | ⟨2, _⟩ =>
      show (middleAdd A R C E wf).start (ix3 b j c) idx 2 + ((middleAdd A R C E wf).window (ix3 b j c) 2 : ℤ) = (c.val : ℤ)
      rw [s2, w2]; simp

/-- Adding numbers: place `r` gains every number whose word names `r`. -/
theorem add_points (wf : ScatterDims.WF ⟨1, ![R]⟩ ⟨2, ![E, 1]⟩ ⟨1, ![E]⟩ [] [0] [0] 1) (x : FVec Ideal ⟨1, ![R]⟩ .f32)
    (u : FVec Ideal ⟨1, ![E]⟩ .f32) (r : Fin R) :
    Host.scatterAdd (pointAdd R E wf) x idx u (ix1 r) = x (ix1 r) + ∑ j ∈ univ.filter (fun j => k j = r), u (ix1 j) := by
  refine congrArg (x (ix1 r) + ·) ?_
  rw [sum_filter, sum_filter, sum_idx1]
  exact sum_congr rfl fun j _ => if_congr (point_lands hR idx k hk wf j r) rfl rfl

/-- Adding rows: row `r` gains every row whose word names `r`. -/
theorem add_rows (wf : ScatterDims.WF ⟨2, ![R, C]⟩ ⟨2, ![E, 1]⟩ ⟨2, ![E, C]⟩ [1] [0] [0] 1) (x : FVec Ideal ⟨2, ![R, C]⟩ .f32)
    (u : FVec Ideal ⟨2, ![E, C]⟩ .f32) (r : Fin R) (d : Fin C) :
    Host.scatterAdd (rowAdd R C E wf) x idx u (ix2 r d) = x (ix2 r d) + ∑ j ∈ univ.filter (fun j => k j = r), u (ix2 j d) := by
  refine congrArg (x (ix2 r d) + ·) ?_
  rw [sum_filter, sum_filter, sum_idx2]
  refine sum_congr rfl fun j _ => ?_
  rw [sum_eq_single d]
  · exact if_congr ((row_lands hR idx k hk wf j d r d).trans (and_iff_left rfl)) rfl rfl
  · exact fun c _ hc => if_neg fun h => hc ((row_lands hR idx k hk wf j c r d).mp h).2
  · exact fun h => absurd (mem_univ d) h

/-- Adding rows in every slice. -/
theorem add_middle (wf : ScatterDims.WF ⟨3, ![A, R, C]⟩ ⟨2, ![E, 1]⟩ ⟨3, ![A, E, C]⟩ [0, 2] [1] [1] 1)
    (x : FVec Ideal ⟨3, ![A, R, C]⟩ .f32) (u : FVec Ideal ⟨3, ![A, E, C]⟩ .f32) (a : Fin A) (r : Fin R) (d : Fin C) :
    Host.scatterAdd (middleAdd A R C E wf) x idx u (ix3 a r d)
      = x (ix3 a r d) + ∑ j ∈ univ.filter (fun j => k j = r), u (ix3 a j d) := by
  refine congrArg (x (ix3 a r d) + ·) ?_
  rw [sum_filter, sum_filter, sum_idx3, sum_eq_single a]
  · refine sum_congr rfl fun j _ => ?_
    rw [sum_eq_single d]
    · exact if_congr ((middle_lands hR idx k hk wf a j d a r d).trans (by simp)) rfl rfl
    · exact fun c _ hc => if_neg fun h => hc ((middle_lands hR idx k hk wf a j c a r d).mp h).2.2
    · exact fun h => absurd (mem_univ d) h
  · exact fun b _ hb => sum_eq_zero fun j _ => sum_eq_zero fun c _ =>
      if_neg fun h => hb ((middle_lands hR idx k hk wf b j c a r d).mp h).1
  · exact fun h => absurd (mem_univ a) h

end Adding

/-! ## Words in range -/

section Range

variable {b R : ℕ} (hb : b < R) (hR : R ≤ 2 ^ 31)
include hb hR

theorem word_not_neg : IntOp.cmpi .slt (BitVec.ofNat 32 b) 0#32 = 0#1 := by
  have := toInt_word hb hR
  have h0 : ¬ ((b : ℤ) < 0) := by omega
  simp only [IntOp.cmpi, BitVec.slt, this, BitVec.toInt_zero]
  simp [h0]

theorem word_unwrapped (y : BitVec 32) : Scalar.select (IntOp.cmpi .slt (BitVec.ofNat 32 b) 0#32) y (BitVec.ofNat 32 b) = BitVec.ofNat 32 b := by
  rw [word_not_neg hb hR]; rfl

theorem word_in_range : IntOp.andi (IntOp.cmpi .sge (BitVec.ofNat 32 b) 0#32) (IntOp.cmpi .sle (BitVec.ofNat 32 b) (BitVec.ofNat 32 (R - 1))) = 1#1 := by
  have h1 := toInt_word hb hR
  have h2 : (BitVec.ofNat 32 (R - 1)).toInt = ((R - 1 : ℕ) : ℤ) := toInt_word (b := R - 1) (R := R) (by omega) hR
  have h3 : (b : ℤ) ≤ ((R - 1 : ℕ) : ℤ) := by omega
  simp only [IntOp.cmpi, BitVec.sle, h1, h2]
  simp [h3, IntOp.andi]

end Range

end Cert.Proof
-- ==== Proof.Maths.lean ====
module

public import Idealize.ShloMosaic.Lib.Pointwise
public import Idealize.ShloMosaic.Lib.SortFacts
public import Idealize.ShloMosaic.Lib.IdealHost

@[expose] public section

noncomputable section

namespace Cert.Proof

open Idealize.ShloMosaic
open Finset

/-! The mathematics of the two layers and of the gate, over the extended reals, with no array in sight. -/

/-! ## Constants -/

theorem ofBits_neg_inf : Ideal.ofBits .f32 4286578688#32 = ⊥ := by
  simp [Ideal.ofBits, Ideal.ieee]

theorem ofBits_pos_inf : Ideal.ofBits .f32 2139095040#32 = ⊤ := by
  simp [Ideal.ofBits, Ideal.ieee]

theorem ofBits_neg_one : Ideal.ofBits .f32 3212836864#32 = -1 := by
  have h : Ideal.ofBits .f32 3212836864#32 = ((-(1 : ℝ)) : EReal) := by
    simp [Ideal.ofBits, Ideal.ieee, -EReal.coe_mul, -EReal.coe_neg]; norm_num
  rw [h]; simp

/-! ## The first and the second largest of eight -/

section Choice

variable {n : ℕ}

/-- The largest of finitely many. -/
def top (q : Fin n → EReal) : EReal := fold max ⊥ q univ

theorem le_top_of (q : Fin n → EReal) (x : Fin n) : q x ≤ top q :=
  le_fold_max _ |>.mpr (Or.inr ⟨x, mem_univ _, le_refl _⟩)

theorem eq_top_iff_all (q : Fin n → EReal) (x : Fin n) : q x = top q ↔ ∀ y, q y ≤ q x := by
  constructor
  · intro h y; rw [h]; exact le_top_of q y
  · intro h
    exact le_antisymm (le_top_of q x) ((fold_max_le _).mpr ⟨bot_le, fun y _ => h y⟩)

theorem exists_largest [NeZero n] (q : Fin n → EReal) : ∃ x, ∀ y, q y ≤ q x := by
  obtain ⟨x, _, h⟩ := Finset.exists_max_image univ q ⟨0, mem_univ _⟩
  exact ⟨x, fun y => h y (mem_univ _)⟩

open Classical in
theorem largest_nonempty [NeZero n] (q : Fin n → EReal) : (univ.filter fun x => ∀ y, q y ≤ q x).Nonempty :=
  (exists_largest q).imp fun x h => mem_filter.mpr ⟨mem_univ _, h⟩

open Classical in
/-- The least index at which the largest stands. -/
def first [NeZero n] (q : Fin n → EReal) : Fin n := (univ.filter fun x => ∀ y, q y ≤ q x).min' (largest_nonempty q)

theorem first_largest [NeZero n] (q : Fin n → EReal) (y : Fin n) : q y ≤ q (first q) := by
  classical
  exact (mem_filter.mp (min'_mem _ (largest_nonempty q))).2 y

theorem first_least [NeZero n] (q : Fin n → EReal) (x : Fin n) (h : ∀ y, q y ≤ q x) : first q ≤ x := by
  classical
  exact min'_le _ _ (mem_filter.mpr ⟨mem_univ _, h⟩)

theorem first_unique [NeZero n] (q : Fin n → EReal) (a : Fin n) (h : ∀ y, q y ≤ q a) (l : ∀ x, (∀ y, q y ≤ q x) → a ≤ x) :
    first q = a := le_antisymm (first_least q a h) (l _ (first_largest q))

/-- The same values with the first choice put below every weight. -/
def without [NeZero n] (q : Fin n → EReal) (e : Fin n) : EReal := if e = first q then -1 else q e

/-- The second choice. -/
def second [NeZero n] (q : Fin n → EReal) : Fin n := first (without q)

end Choice

/-- The least of eight words, each an index where the largest stands and nine elsewhere, is the first choice. -/
theorem least_word (q : Fin 8 → EReal) (f : Fin 8 → BitVec 32)
    (hf : ∀ x, f x = if q x = top q then BitVec.ofNat 32 x else 9#32) :
    fold IntOp.minsi 2147483647#32 f univ = BitVec.ofNat 32 (first q) := by
  have and_rel : ∀ {x y z : BitVec 32}, x.toInt ≤ (IntOp.minsi y z).toInt ↔ x.toInt ≤ y.toInt ∧ x.toInt ≤ z.toInt := by
    intro x y z
    simp only [IntOp.minsi, BitVec.slt]
    split <;> simp_all <;> omega
  have or_rel : ∀ {x y z : BitVec 32}, (IntOp.minsi y z).toInt ≤ x.toInt ↔ y.toInt ≤ x.toInt ∨ z.toInt ≤ x.toInt := by
    intro x y z
    simp only [IntOp.minsi, BitVec.slt]
    split <;> simp_all <;> omega
  have word : ∀ a : Fin 8, (BitVec.ofNat 32 a.val).toInt = a.val := by decide
  have atFirst : f (first q) = BitVec.ofNat 32 (first q) := by
    rw [hf, if_pos ((eq_top_iff_all q _).mpr (first_largest q))]
  apply BitVec.eq_of_toInt_eq
  apply le_antisymm
  · refine (Finset.fold_op_rel_iff_or (r := fun x y : BitVec 32 => y.toInt ≤ x.toInt) or_rel).mpr (Or.inr ⟨first q, mem_univ _, ?_⟩)
    rw [atFirst]
  · refine (Finset.fold_op_rel_iff_and (r := fun x y : BitVec 32 => x.toInt ≤ y.toInt) and_rel).mpr ⟨?_, fun x _ => ?_⟩
    · rw [word]; have := (first q).isLt; simp; omega
    · rw [hf]
      split
      · rename_i h
        rw [word, word]
        exact_mod_cast first_least q x ((eq_top_iff_all q x).mp h)
      · rw [word]; have := (first q).isLt; simp; omega

/-! ## A stable sort, largest first, begins with the first and the second choice -/

section Sorting

variable {n : ℕ} (q : Fin n → EReal)

/-- Strictly before: larger, or as large and of smaller index. -/
def Ahead (a b : Fin n) : Prop := q b < q a ∨ (q a = q b ∧ a < b)

theorem insert_ahead (B : Fin n → Fin n → Bool) (hB : ∀ a b, B a b = true ↔ q b < q a) (a : Fin n) (l : List (Fin n))
    (ha : ∀ b ∈ l, a < b) (hl : l.Pairwise (Ahead q)) : (insertBefore B a l).Pairwise (Ahead q) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem _ hc)) hl.2⟩
      rcases List.mem_cons.mp ((perm_insertBefore B a l).mem_iff.mp hc) with rfl | hc
      · exact Or.inl ((hB b c).mp h)
      · exact hl.1 c hc
    · rename_i h
      have hab : q b ≤ q a := not_lt.mp fun h' => h ((hB b a).mpr h')
      refine List.pairwise_cons.mpr ⟨fun c hc => ?_, List.pairwise_cons.mpr hl⟩
      have lt : a < c := ha c hc
      have hcb : q c ≤ q b := by
        rcases List.mem_cons.mp hc with rfl | hc
        · exact le_refl _
        · rcases hl.1 c hc with h | h
          · exact h.le
          · exact h.1.ge
      rcases lt_or_eq_of_le (hcb.trans hab) with h | h
      · exact Or.inl h
      · exact Or.inr ⟨h.symm, lt⟩

theorem sort_ahead (B : Fin n → Fin n → Bool) (hB : ∀ a b, B a b = true ↔ q b < q a) (l : List (Fin n))
    (hl : l.Pairwise (· < ·)) : (stableSort B l).Pairwise (Ahead q) := by
  induction l with
  | nil => exact List.Pairwise.nil
  | cons a l ih =>
    rw [List.pairwise_cons] at hl
    unfold stableSort
    exact insert_ahead q B hB a _ (fun b hb => hl.1 b ((perm_stableSort B l).mem_iff.mp hb)) (ih hl.2)

theorem positions_ahead (B : Fin n → Fin n → Bool) (hB : ∀ a b, B a b = true ↔ q b < q a) {i j : Fin n} (h : i < j) :
    Ahead q (sortedFrom B i) (sortedFrom B j) := by
  have := sort_ahead q B hB (List.finRange n) (List.pairwise_lt_finRange n)
  exact List.pairwise_iff_get.mp this _ _ h

theorem sorted_zero [NeZero n] (B : Fin n → Fin n → Bool) (hB : ∀ a b, B a b = true ↔ q b < q a) :
    sortedFrom B 0 = first q := by
  have front : ∀ y, y = sortedFrom B 0 ∨ Ahead q (sortedFrom B 0) y := by
    intro y
    obtain ⟨k, rfl⟩ := sortedFrom_surjective B y
    rcases eq_or_ne k 0 with rfl | hk
    · exact Or.inl rfl
    · exact Or.inr (positions_ahead q B hB (Fin.pos_iff_ne_zero.mpr hk))
  refine (first_unique q _ (fun y => ?_) (fun x hx => ?_)).symm
  · rcases front y with rfl | h | h
    · exact le_refl _
    · exact h.le
    · exact h.1.ge
  · rcases front x with rfl | h | h
    · exact le_refl _
    · exact absurd (hx _) (not_le.mpr h)
    · exact h.2.le

theorem sorted_one (q : Fin (n + 2) → EReal) (above : ∀ e, -1 < q e) (B : Fin (n + 2) → Fin (n + 2) → Bool)
    (hB : ∀ a b, B a b = true ↔ q b < q a) : sortedFrom B 1 = second q := by
  have h0 := sorted_zero q B hB
  have ne : sortedFrom B 1 ≠ first q := by
    rw [← h0]; exact fun h => absurd (sortedFrom_injective B h) (by simp)
  have next : ∀ y, y ≠ first q → y = sortedFrom B 1 ∨ Ahead q (sortedFrom B 1) y := by
    intro y hy
    obtain ⟨k, rfl⟩ := sortedFrom_surjective B y
    rcases eq_or_ne k 0 with rfl | hk
    · exact absurd h0 hy
    · rcases eq_or_ne k 1 with rfl | hk1
      · exact Or.inl rfl
      · refine Or.inr (positions_ahead q B hB ?_)
        have a : k.val ≠ 0 := fun h => hk (Fin.ext h)
        have b : k.val ≠ 1 := fun h => hk1 (Fin.ext h)
        exact Fin.lt_def.mpr (by simp; omega)
  have at1 : without q (sortedFrom B 1) = q (sortedFrom B 1) := if_neg ne
  refine (first_unique (without q) _ (fun y => ?_) (fun x hx => ?_)).symm
  · rw [at1]; unfold without
    split
    · exact (above _).le
    · rename_i hy
      rcases next y hy with rfl | h | h
      · exact le_refl _
      · exact h.le
      · exact h.1.ge
  · have h1 := hx (sortedFrom B 1)
    rw [at1] at h1
    unfold without at h1
    split at h1
    · exact absurd h1 (not_le.mpr (above _))
    · rename_i hy
      rcases next x hy with rfl | h | h
      · exact le_refl _
      · exact absurd h1 (not_le.mpr h)
      · exact h.2.le

end Sorting

/-! ## The softmax -/

/-- The weight of each of finitely many logits. -/
def soft {n : ℕ} (l : Fin n → EReal) (e : Fin n) : EReal :=
  Ideal.div (Ideal.exp (l e - top l)) (∑ e', Ideal.exp (l e' - top l))

theorem exp_nonneg (a : EReal) : 0 ≤ Ideal.exp a := by
  induction a with
  | bot => exact le_refl _
  | top => exact le_top
  | coe r => exact EReal.coe_nonneg.mpr (Real.exp_pos r).le

/-- No weight is negative, where the greatest logit is finite. -/
theorem soft_nonneg {n : ℕ} [NeZero n] (l : Fin n → EReal) (fin : top l ≠ ⊤ ∧ top l ≠ ⊥) (e : Fin n) : 0 ≤ soft l e := by
  obtain ⟨a, ha⟩ := exists_largest l
  have ht : l a = top l := (eq_top_iff_all l a).mpr ha
  have one : Ideal.exp (l a - top l) = 1 := by
    rw [ht, EReal.sub_self fin.1 fin.2]
    exact congrArg Real.toEReal Real.exp_zero
  have pos : 0 < ∑ e', Ideal.exp (l e' - top l) :=
    lt_of_lt_of_le (one ▸ zero_lt_one) (single_le_sum (f := fun e' => Ideal.exp (l e' - top l)) (fun e' _ => exp_nonneg _) (mem_univ a))
  unfold soft Ideal.div
  rw [if_neg pos.ne']
  exact mul_nonneg (exp_nonneg _) (EReal.inv_nonneg_of_nonneg pos.le)

theorem soft_above {n : ℕ} [NeZero n] (l : Fin n → EReal) (fin : top l ≠ ⊤ ∧ top l ≠ ⊥) (e : Fin n) : -1 < soft l e :=
  lt_of_lt_of_le (by norm_num) (soft_nonneg l fin e)

/-! ## Sums -/

/-- A sum against an indicator picks the one term. -/
theorem sum_indicator {n : ℕ} (v : Fin n → EReal) (s : Fin n) : (∑ e, (if e = s then (1 : EReal) else 0) * v e) = v s := by
  simp

theorem sum_indicator_right {n : ℕ} (v : Fin n → EReal) (s : Fin n) : (∑ e, v e * (if e = s then (1 : EReal) else 0)) = v s := by
  simp

/-- A nonnegative real goes through a sum of extended reals. -/
theorem sum_mul_real {ι : Type*} (s : Finset ι) (f : ι → EReal) (r : EReal) (h0 : 0 ≤ r) (ht : r ≠ ⊤) :
    (∑ i ∈ s, f i) * r = ∑ i ∈ s, f i * r := by
  classical
  induction s using Finset.induction_on with
  | empty => simp
  | insert a s ha ih => rw [sum_insert ha, sum_insert ha, EReal.right_distrib_of_nonneg_of_ne_top h0 ht, ih]

/-- A factor goes through a sum of nonnegative extended reals. -/
theorem sum_nonneg_mul {ι : Type*} (s : Finset ι) (f : ι → EReal) (h : ∀ i, 0 ≤ f i) (r : EReal) :
    (∑ i ∈ s, f i) * r = ∑ i ∈ s, f i * r := by
  classical
  induction s using Finset.induction_on with
  | empty => simp
  | insert a s ha ih =>
    rw [sum_insert ha, sum_insert ha, EReal.right_distrib_of_nonneg (h a) (sum_nonneg fun i _ => h i), ih]

/-- Multiplying each row by the matrix and then adding rows and dividing, or adding rows, dividing and then
    multiplying by the matrix: for rows of nonnegative entries these agree. -/
theorem aggregate_exchange {ι : Type*} {K : ℕ} (s : Finset ι) (h : ι → Fin K → EReal) (hh : ∀ j k, 0 ≤ h j k) (W : Fin K → EReal)
    (r : EReal) (h0 : 0 ≤ r) (ht : r ≠ ⊤) :
    (∑ j ∈ s, ∑ k, h j k * W k) * r = ∑ k, ((∑ j ∈ s, h j k) * r) * W k := by
  rw [sum_mul_real _ _ _ h0 ht]
  simp only [sum_mul_real _ _ _ h0 ht]
  rw [sum_comm]
  refine sum_congr rfl fun k _ => ?_
  rw [sum_nonneg_mul s _ (fun j => mul_nonneg (hh j k) h0)]
  exact sum_congr rfl fun j _ => mul_right_comm _ _ _

end Cert.Proof
-- ==== Proof.GateValue.lean ====
module

public import proofs.«01_k».proof.Proof.Gate
public import proofs.«01_k».proof.Proof.Maths
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.TcCoe
open Idealize.ShloMosaic.Pipeline (Dat)
open Finset

/-! What the first call leaves: the gate's weights, the indicators of the two choices, and the choices themselves. -/

/-- A row's logit for an expert. -/
def logit {n : ℕ} (x : (⟨2, ![n, 256]⟩ : Shape).Idx → EReal) (wg : (⟨2, ![256, 8]⟩ : Shape).Idx → EReal)
    (bg : (⟨1, ![8]⟩ : Shape).Idx → EReal) (a : Fin n) (e : Fin 8) : EReal :=
  (∑ k : Fin 256, x (ix2 a k) * wg (ix2 k e)) + bg (ix1 e)

section Payloads

variable (x0 : Vec Ideal S1000x256 .f32) (x1 : Vec Ideal S256x8 .f32) (x2 : Vec Ideal S8 .f32)

theorem weight_at (a : Fin 1000) (e : Fin 8) : k0_pay3 x0 x1 x2 (ix2 a e) = soft (logit x0 x1 x2 a) e := by
  pointwise [k0_pay3]
  simp only [ofBits_neg_inf]
  rfl

theorem first_at (a : Fin 1000) : k0_pay4 x0 x1 x2 (ix2 a 0) = BitVec.ofNat 32 (first (soft (logit x0 x1 x2 a))) := by
  pointwise [k0_pay4]
  simp only [ofBits_neg_inf, weight_at]
  exact least_word (soft (logit x0 x1 x2 a)) _ fun x => rfl

theorem word_eq_iff (a b : Fin 8) : IntOp.cmpi .eq (BitVec.ofNat 32 a) (BitVec.ofNat 32 b) = if a = b then 1#1 else 0#1 := by
  revert a b; decide

theorem second_at (a : Fin 1000) : k0_pay6 x0 x1 x2 (ix2 a 0) = BitVec.ofNat 32 (second (soft (logit x0 x1 x2 a))) := by
  pointwise [k0_pay6]
  simp only [ofBits_neg_inf, ofBits_neg_one, weight_at, first_at, word_eq_iff]
  refine least_word (without (soft (logit x0 x1 x2 a))) _ fun x => ?_
  have h : ∀ x : Fin 8, Scalar.select (if x = first (soft (logit x0 x1 x2 a)) then 1#1 else 0#1) (-1 : EReal) (soft (logit x0 x1 x2 a) x)
      = without (soft (logit x0 x1 x2 a)) x := by
    intro x; unfold without Scalar.select; split <;> simp
  simp only [h]; rfl

theorem indicator_word (a b : Fin 8) :
    (FloatOps.sitofp (F := Ideal) .f32 (BitVec.setWidth 32 (IntOp.cmpi .eq (BitVec.ofNat 32 a) (BitVec.ofNat 32 b))) : EReal)
      = if a = b then 1 else 0 := by
  rw [word_eq_iff]
  by_cases h : a = b
  · rw [if_pos h, if_pos h]; show (((BitVec.setWidth 32 1#1).toInt : ℝ) : EReal) = 1; norm_num
  · rw [if_neg h, if_neg h]; show (((BitVec.setWidth 32 0#1).toInt : ℝ) : EReal) = 0; norm_num

theorem indicator_first_at (a : Fin 1000) (e : Fin 8) :
    k0_pay5 x0 x1 x2 (ix2 a e) = if e = first (soft (logit x0 x1 x2 a)) then (1 : EReal) else 0 := by
  pointwise [k0_pay5]
  rw [first_at]
  exact indicator_word _ _

theorem indicator_second_at (a : Fin 1000) (e : Fin 8) :
    k0_pay1 (F := Ideal) (k0_pay7 x0 x1 x2) (ix2 a e) = if e = second (soft (logit x0 x1 x2 a)) then (1 : EReal) else 0 := by
  pointwise [k0_pay1, k0_pay7]
  rw [second_at]
  exact indicator_word _ _

/-- The two choices, in columns 0 and 1, as words. -/
def chosen (q : Fin 8 → EReal) (e : Fin 8) : BitVec 32 :=
  if e = 0 then BitVec.ofNat 32 (first q) else if e = 1 then BitVec.ofNat 32 (second q) else 0#32

theorem chosen_at (a : Fin 1000) (e : Fin 8) :
    out0_6 x0 x1 x2 (ix2 a e) = chosen (soft (logit x0 x1 x2 a)) e := by
  pointwise [out0_6, k0_pay2]
  rw [first_at, second_at]
  revert e
  have h0 : ∀ e : Fin 8, IntOp.cmpi .eq (BitVec.ofNat 32 e.val) 0#32 = if e = 0 then 1#1 else 0#1 := by decide
  have h1 : ∀ e : Fin 8, IntOp.cmpi .eq (BitVec.ofNat 32 e.val) 1#32 = if e = 1 then 1#1 else 0#1 := by decide
  intro e
  rw [h0, h1]
  unfold chosen Scalar.select
  by_cases a : e = 0 <;> by_cases b : e = 1 <;> simp [a, b]

end Payloads

variable (V : (c : Dev nD) → (b : Ref sig .tc) → Buf (Elt Ideal) ((c : Thread nD τ).loc b))

theorem at0_0 : ∀ t : Fin cfg0.N, win0_0.index t = ![(grid0.coords t 0).val, 0] := (by decide +kernel : ∀ t : Fin grid0.N, _)
theorem at0_1 : ∀ t : Fin cfg0.N, win0_1.index t = ![0, 0] := (by decide +kernel : ∀ t : Fin grid0.N, _)
theorem at0_2 : ∀ t : Fin cfg0.N, win0_2.index t = ![0] := (by decide +kernel : ∀ t : Fin grid0.N, _)
theorem at0_3 : ∀ t : Fin cfg0.N, win0_3.index t = ![(grid0.coords t 0).val, 0] := (by decide +kernel : ∀ t : Fin grid0.N, _)
theorem at0_4 : ∀ t : Fin cfg0.N, win0_4.index t = ![(grid0.coords t 0).val, 0] := (by decide +kernel : ∀ t : Fin grid0.N, _)
theorem at0_5 : ∀ t : Fin cfg0.N, win0_5.index t = ![(grid0.coords t 0).val, 0] := (by decide +kernel : ∀ t : Fin grid0.N, _)
theorem at0_6 : ∀ t : Fin cfg0.N, win0_6.index t = ![(grid0.coords t 0).val, 0] := (by decide +kernel : ∀ t : Fin grid0.N, _)

/-- The row of the whole array that is row `a` of the block of point `t`. -/
def rowOf0 (t : Fin cfg0.N) (a : Fin 1000) : Fin 10000 :=
  ⟨(grid0.coords t 0).val * 1000 + a.val, by have := (grid0.coords t 0).isLt; have h : (grid0.coords t 0).val < 10 := this; omega⟩

/-- The weights of row `n` as the first call's arguments give them. -/
abbrev weights (c : Dev nD) (n : Fin 10000) : Fin 8 → EReal := soft (logit (V c main_arg0) (V c main_arg2) (V c main_arg3) n)

theorem block_logit (c : Dev nD) (t : Fin cfg0.N) (a : Fin 1000) :
    logit (n := 1000) (blk0 V c 0 t) (blk0 V c 1 t) (blk0 V c 2 t) a
      = logit (V c main_arg0) (V c main_arg2) (V c main_arg3) (rowOf0 t a) := by
  have r0 : ∀ k : Fin 256, blk0 V c 0 t (ix2 a k) = V c main_arg0 (ix2 (rowOf0 t a) k) := by
    intro k; blk_simp [blk0]; congr 1; blk_ext [at0_0, rowOf0]
  have r1 : ∀ (k : Fin 256) (e : Fin 8), blk0 V c 1 t (ix2 k e) = V c main_arg2 (ix2 k e) := by
    intro k e; blk_simp [blk0]; congr 1; blk_ext [at0_1]
  have r2 : ∀ (e : Fin 8), blk0 V c 2 t (ix1 e) = V c main_arg3 (ix1 e) := by
    intro e; blk_simp [blk0]; congr 1; blk_ext [at0_2]
  funext e
  unfold logit
  rw [r2]
  simp only [r0, r1]

/-- The gate's weights. -/
theorem gate_weights (c : Dev nD) : (dat0 V c).arrAt 3 cfg0.N = fun i => weights V c (i 0) (i 1) := by
  refine (dat0 V c).arrAt_eq_of_covers 3 _ (by decide +kernel) fun t hf y => ?_
  blk_simp
  rw [after0_3]
  obtain ⟨a, e, rfl⟩ : ∃ (a : Fin 1000) (e : Fin 8), y = ix2 a e := ⟨y 0, y 1, eq_ix2 y⟩
  have place : ((cfg0.win 3).blk t).view.emb (ix2 a e) = ix2 (rowOf0 t a) e := by blk_ext [at0_3, rowOf0]
  rw [place]
  unfold out0_3
  refine (weight_at _ _ _ a e).trans ?_
  rw [block_logit]
  rfl

/-- The indicator of the first choice. -/
theorem gate_first (c : Dev nD) : (dat0 V c).arrAt 4 cfg0.N = fun i => if (i 1 : Fin 8) = first (weights V c (i 0)) then (1 : EReal) else 0 := by
  refine (dat0 V c).arrAt_eq_of_covers 4 _ (by decide +kernel) fun t hf y => ?_
  blk_simp
  rw [after0_4]
  obtain ⟨a, e, rfl⟩ : ∃ (a : Fin 1000) (e : Fin 8), y = ix2 a e := ⟨y 0, y 1, eq_ix2 y⟩
  have place : ((cfg0.win 4).blk t).view.emb (ix2 a e) = ix2 (rowOf0 t a) e := by blk_ext [at0_4, rowOf0]
  rw [place]
  unfold out0_4
  refine (indicator_first_at _ _ _ a e).trans ?_
  rw [block_logit]
  rfl

/-- The indicator of the second choice. -/
theorem gate_second (c : Dev nD) : (dat0 V c).arrAt 5 cfg0.N = fun i => if (i 1 : Fin 8) = second (weights V c (i 0)) then (1 : EReal) else 0 := by
  refine (dat0 V c).arrAt_eq_of_covers 5 _ (by decide +kernel) fun t hf y => ?_
  blk_simp
  rw [after0_5]
  obtain ⟨a, e, rfl⟩ : ∃ (a : Fin 1000) (e : Fin 8), y = ix2 a e := ⟨y 0, y 1, eq_ix2 y⟩
  have place : ((cfg0.win 5).blk t).view.emb (ix2 a e) = ix2 (rowOf0 t a) e := by blk_ext [at0_5, rowOf0]
  rw [place]
  unfold out0_5
  refine (indicator_second_at _ _ _ a e).trans ?_
  rw [block_logit]
  rfl

/-- The two choices. -/
theorem gate_chosen (c : Dev nD) : (dat0 V c).arrAt 6 cfg0.N = fun i => chosen (weights V c (i 0)) (i 1) := by
  refine (dat0 V c).arrAt_eq_of_covers 6 _ (by decide +kernel) fun t hf y => ?_
  blk_simp
  rw [after0_6]
  obtain ⟨a, e, rfl⟩ : ∃ (a : Fin 1000) (e : Fin 8), y = ix2 a e := ⟨y 0, y 1, eq_ix2 y⟩
  have place : ((cfg0.win 6).blk t).view.emb (ix2 a e) = ix2 (rowOf0 t a) e := by blk_ext [at0_6, rowOf0]
  rw [place]
  refine (chosen_at _ _ _ a e).trans ?_
  rw [block_logit]
  rfl

end Cert.Proof
-- ==== Proof.Spec.lean ====
module

public import proofs.«01_k».proof.Proof.Maths
public import proofs.«01_k».proof.Proof.GateValue

@[expose] public section

noncomputable section

namespace Cert.Proof

open Idealize.ShloMosaic
open Finset

/-! The mixture written as mathematics over the ten inputs: both programs are shown to compute it. -/

/-- The ten inputs. -/
structure Inputs where
  x : FVec Ideal ⟨2, ![10000, 256]⟩ .f32
  edges : IVec ⟨2, ![2, 160000]⟩ 32
  wg : FVec Ideal ⟨2, ![256, 8]⟩ .f32
  bg : FVec Ideal ⟨1, ![8]⟩ .f32
  wl1 : FVec Ideal ⟨3, ![8, 256, 256]⟩ .f32
  bl1 : FVec Ideal ⟨2, ![8, 256]⟩ .f32
  wr1 : FVec Ideal ⟨3, ![8, 256, 256]⟩ .f32
  wl2 : FVec Ideal ⟨3, ![8, 256, 256]⟩ .f32
  bl2 : FVec Ideal ⟨2, ![8, 256]⟩ .f32
  wr2 : FVec Ideal ⟨3, ![8, 256, 256]⟩ .f32

/-- The edges' two ends as nodes. -/
structure Ends where
  src : Fin 160000 → Fin 10000
  dst : Fin 160000 → Fin 10000

/-- What is asked of the inputs: every edge word names a node, and every node's greatest logit is finite. -/
structure Good (A : Inputs) (G : Ends) : Prop where
  src : ∀ j, A.edges (ix2 0 j) = BitVec.ofNat 32 (G.src j)
  dst : ∀ j, A.edges (ix2 1 j) = BitVec.ofNat 32 (G.dst j)
  logits : ∀ n, top (logit A.x A.wg A.bg n) ≠ ⊤ ∧ top (logit A.x A.wg A.bg n) ≠ ⊥

variable (A : Inputs) (G : Ends)

/-- The edges that end at a node. -/
def Ends.into (n : Fin 10000) : Finset (Fin 160000) := univ.filter fun j => G.dst j = n

/-- The sum of a feature over a node's neighbours. -/
def total (f : Fin 10000 → EReal) (n : Fin 10000) : EReal := ∑ j ∈ G.into n, f (G.src j)

/-- A node's degree, at least one. -/
def degree (n : Fin 10000) : EReal := max (∑ _j ∈ G.into n, 1) 1

/-- The mean of a feature over a node's neighbours. -/
def mean (f : Fin 10000 → EReal) (n : Fin 10000) : EReal := Ideal.div (total G f n) (degree G n)

/-- An expert's first layer. -/
def hidden (e : Fin 8) (n : Fin 10000) (d : Fin 256) : EReal :=
  max ((∑ k : Fin 256, mean G (fun i => A.x (ix2 i k)) n * A.wl1 (ix3 e k d)) + A.bl1 (ix2 e d)
    + ∑ k : Fin 256, A.x (ix2 n k) * A.wr1 (ix3 e k d)) 0

/-- An expert's second layer. -/
def outcome (e : Fin 8) (n : Fin 10000) (d : Fin 256) : EReal :=
  max ((∑ k : Fin 256, mean G (fun i => hidden A G e i k) n * A.wl2 (ix3 e k d)) + A.bl2 (ix2 e d)
    + ∑ k : Fin 256, hidden A G e n k * A.wr2 (ix3 e k d)) 0

/-- The gate's weights of a node. -/
def gate (n : Fin 10000) : Fin 8 → EReal := soft (logit A.x A.wg A.bg n)

/-- The mixture of a node's two best experts. -/
def mixture (n : Fin 10000) (d : Fin 256) : EReal :=
  outcome A G (first (gate A n)) n d * gate A n (first (gate A n))
    + outcome A G (second (gate A n)) n d * gate A n (second (gate A n))

variable {A G}

theorem hidden_nonneg (e : Fin 8) (n : Fin 10000) (d : Fin 256) : 0 ≤ hidden A G e n d := le_max_right _ _

theorem degree_ne_zero (n : Fin 10000) : degree G n ≠ 0 := by
  have h : (1 : EReal) ≤ degree G n := le_max_right _ _
  exact fun e => absurd (e ▸ h) (by simp)

/-- A node's degree is a real number that is at least one. -/
theorem degree_real (n : Fin 10000) : ∃ r : ℝ, 1 ≤ r ∧ degree G n = (r : EReal) := by
  refine ⟨max ((G.into n).card : ℝ) 1, le_max_right _ _, ?_⟩
  unfold degree
  rw [sum_const, nsmul_one]
  rcases le_total ((G.into n).card : ℝ) 1 with h | h
  · rw [max_eq_right h, max_eq_right (by exact_mod_cast h)]; rfl
  · rw [max_eq_left h, max_eq_left (by exact_mod_cast h)]; rfl

/-- The reciprocal of a degree is neither negative nor infinite. -/
theorem recip_degree (n : Fin 10000) : 0 ≤ Ideal.div 1 (degree G n) ∧ Ideal.div 1 (degree G n) ≠ ⊤ := by
  obtain ⟨r, hr, h⟩ := degree_real (G := G) n
  have e : Ideal.div 1 (degree G n) = ((r⁻¹ : ℝ) : EReal) := by
    unfold Ideal.div
    rw [if_neg (degree_ne_zero n), one_mul, h]; exact (EReal.coe_inv r).symm
  rw [e]
  exact ⟨by exact_mod_cast inv_nonneg.mpr (by linarith), EReal.coe_ne_top _⟩

theorem mean_eq (f : Fin 10000 → EReal) (n : Fin 10000) : mean G f n = total G f n * Ideal.div 1 (degree G n) :=
  (Ideal.mul_one_div (degree_ne_zero n)).symm

end Cert.Proof
-- ==== Proof.RefValue.lean ====
module

public import proofs.«01_k».proof.Proof.RefStages
public import proofs.«01_k».proof.Proof.Rows
public import proofs.«01_k».proof.Proof.Spec

@[expose] public section

set_option maxRecDepth 16384

noncomputable section

namespace Cert.Proof.Ref

open Cert.ReferenceIdeal Cert.ReferenceIdeal.Gen
open Idealize.ShloMosaic Idealize.ShloMosaic.TcCoe
open Finset

/-! The reference's stages at an index. -/

theorem scores_at (x : FVec Ideal S10000x256 .f32) (wg : FVec Ideal S256x8 .f32) (bg : FVec Ideal S8 .f32) (n : Fin 10000) (e : Fin 8) :
    scores x wg bg (ix2 n e) = logit x wg bg n e := by
  pointwise [scores]
  rfl

theorem powers_at (l : FVec Ideal S10000x8 .f32) (n : Fin 10000) (e : Fin 8) :
    powers l (ix2 n e) = Ideal.exp (l (ix2 n e) - top fun k => l (ix2 n k)) := by
  pointwise [powers]
  rw [ofBits_neg_inf, max_eq_right bot_le]
  rfl

theorem softmax_at (l : FVec Ideal S10000x8 .f32) (n : Fin 10000) (e : Fin 8) :
    softmax l (ix2 n e) = soft (fun k => l (ix2 n k)) e := by
  pointwise [softmax]
  simp only [powers_at]
  rfl

section Edges

variable (e : IVec S2x160000 32)

theorem sources_at (j : Fin 160000) : sources e (ix1 j) = e (ix2 0 j) := by
  pointwise [sources]

theorem targets_at (j : Fin 160000) : targets e (ix1 j) = e (ix2 1 j) := by
  pointwise [targets]

theorem column_at (i : IVec S160000 32) (j : Fin 160000) : column i (ix2 j 0) = i (ix1 j) := by
  pointwise [column]

variable (i : IVec S160000 32) (b : Fin 160000 → Fin 10000) (hb : ∀ j, i (ix1 j) = BitVec.ofNat 32 (b j))
include hb

theorem wrapped_at (j : Fin 160000) : wrapped i (ix2 j 0) = BitVec.ofNat 32 (b j) := by
  refine (column_at _ j).trans ?_
  pointwise
  rw [hb]
  exact word_unwrapped (b j).isLt (by norm_num) _

theorem inside_at (j : Fin 160000) : inside (wrapped i) (ix1 j) = 1#1 := by
  pointwise [inside]
  rw [show (univ : Finset (Fin 1)) = {0} from rfl, fold_singleton, wrapped_at i b hb]
  exact congrArg (IntOp.andi · 1#1) (word_in_range (b j).isLt (by norm_num))

theorem rows_at (x : FVec Ideal S10000x256 .f32) (j : Fin 160000) (d : Fin 256) : rows x i (ix2 j d) = x (ix2 (b j) d) := by
  pointwise [rows, inside_at i b hb]
  exact take_row _ rfl rfl rfl rfl rfl (by norm_num) x _ j (b j) (wrapped_at i b hb j) d

theorem rows8_at (x : FVec Ideal S8x10000x256 .f32) (a : Fin 8) (j : Fin 160000) (d : Fin 256) : rows8 x i (ix3 a j d) = x (ix3 a (b j) d) := by
  pointwise [rows8, inside_at i b hb]
  exact take_middle _ (by norm_num) x _ j (b j) (wrapped_at i b hb j) a d

theorem sums_at (y : FVec Ideal S160000x256 .f32) (n : Fin 10000) (d : Fin 256) :
    sums y i (ix2 n d) = ∑ j ∈ univ.filter (fun j => b j = n), y (ix2 j d) := by
  refine (add_rows (by norm_num) (column i) b (fun j => (column_at i j).trans (hb j)) _ _ y n d).trans ?_
  pointwise

theorem sums8_at (y : FVec Ideal S8x160000x256 .f32) (a : Fin 8) (n : Fin 10000) (d : Fin 256) :
    sums8 y i (ix3 a n d) = ∑ j ∈ univ.filter (fun j => b j = n), y (ix3 a j d) := by
  refine (add_middle (by norm_num) (column i) b (fun j => (column_at i j).trans (hb j)) _ _ y a n d).trans ?_
  pointwise

theorem counts_at (n : Fin 10000) : counts i (ix1 n) = ∑ _j ∈ univ.filter (fun j => b j = n), 1 := by
  refine (add_points (by norm_num) (column i) b (fun j => (column_at i j).trans (hb j)) _ _ _ n).trans ?_
  pointwise

end Edges

theorem degrees_at (c : FVec Ideal S10000 .f32) (n : Fin 10000) : degrees c (ix1 n) = max (c (ix1 n)) 1 := by
  pointwise [degrees]

theorem means_at (s : FVec Ideal S10000x256 .f32) (g : FVec Ideal S10000 .f32) (n : Fin 10000) (d : Fin 256) :
    means s g (ix2 n d) = Ideal.div (s (ix2 n d)) (g (ix1 n)) := by
  pointwise [means]

theorem means8_at (s : FVec Ideal S8x10000x256 .f32) (g : FVec Ideal S10000 .f32) (a : Fin 8) (n : Fin 10000) (d : Fin 256) :
    means8 s g (ix3 a n d) = Ideal.div (s (ix3 a n d)) (g (ix1 n)) := by
  pointwise [means8]

theorem spread_at (x : FVec Ideal S10000x256 .f32) (w : FVec Ideal S8x256x256 .f32) (a : Fin 8) (n : Fin 10000) (d : Fin 256) :
    spread x w (ix3 a n d) = ∑ k : Fin 256, x (ix2 n k) * w (ix3 a k d) := by
  pointwise [spread]

theorem product_at (x : FVec Ideal S8x10000x256 .f32) (w : FVec Ideal S8x256x256 .f32) (a : Fin 8) (n : Fin 10000) (d : Fin 256) :
    product x w (ix3 a n d) = ∑ k : Fin 256, x (ix3 a n k) * w (ix3 a k d) := by
  pointwise [product]

theorem layer_at (l : FVec Ideal S8x10000x256 .f32) (b : FVec Ideal S8x256 .f32) (r : FVec Ideal S8x10000x256 .f32) (a : Fin 8)
    (n : Fin 10000) (d : Fin 256) : layer l b r (ix3 a n d) = max (l (ix3 a n d) + b (ix2 a d) + r (ix3 a n d)) 0 := by
  pointwise [layer]

section Choice

/-- Which of two of a row's entries stands before the other. -/
def before (p : FVec Ideal S10000x8 .f32) (n : Fin 10000) (a b : Fin 8) : Bool :=
  FloatOps.cmpfTotal .gt (p (ix2 n a)) (p (ix2 n b)) == 1#1

theorem before_iff (p : FVec Ideal S10000x8 .f32) (n : Fin 10000) (a b : Fin 8) : before p n a b = true ↔ p (ix2 n b) < p (ix2 n a) := by
  show (BitVec.ofBool (decide (p (ix2 n b) < p (ix2 n a))) == 1#1) = true ↔ _
  by_cases h : p (ix2 n b) < p (ix2 n a) <;> simp [h]

theorem along_row (n : Fin 10000) (e k : Fin 8) : Shape.Idx.along (s := S10000x8) (ix2 n e) 1 k = ix2 n k := by
  funext a
  match a with
  | ⟨0, _⟩ => rfl
  | ⟨1, _⟩ => rfl

/-- Where a row's sort takes its entries from. -/
theorem sort_row {α β : Type} (cmp : α × β → α × β → BitVec 1) (x : S10000x8.Idx → α) (y : S10000x8.Idx → β) (n : Fin 10000) (e : Fin 8) :
    (Host.sort2 S10000x8 1 cmp x y).1 (ix2 n e)
        = x (ix2 n (sortedFrom (fun a b => cmp (x (ix2 n a), y (ix2 n a)) (x (ix2 n b), y (ix2 n b)) == 1#1) e))
      ∧ (Host.sort2 S10000x8 1 cmp x y).2 (ix2 n e)
        = y (ix2 n (sortedFrom (fun a b => cmp (x (ix2 n a), y (ix2 n a)) (x (ix2 n b), y (ix2 n b)) == 1#1) e)) := by
  have h : (fun a b => cmp (x (Shape.Idx.along (s := S10000x8) (ix2 n e) 1 a), y (Shape.Idx.along (s := S10000x8) (ix2 n e) 1 a))
        (x (Shape.Idx.along (s := S10000x8) (ix2 n e) 1 b), y (Shape.Idx.along (s := S10000x8) (ix2 n e) 1 b)) == 1#1)
      = fun a b : Fin 8 => cmp (x (ix2 n a), y (ix2 n a)) (x (ix2 n b), y (ix2 n b)) == 1#1 := by
    funext a b
    exact congrArg₂ (fun u v => cmp (x u, y u) (x v, y v) == 1#1) (along_row n e a) (along_row n e b)
  rw [← h]
  exact ⟨congrArg x (along_row n e _), congrArg y (along_row n e _)⟩

theorem values_sorted (p : FVec Ideal S10000x8 .f32) (n : Fin 10000) (s : Fin 2) :
    values p (ix2 n s) = p (ix2 n (sortedFrom (before p n) (s.castLE (by norm_num)))) := by
  unfold values Host.topK
  pointwise
  exact (sort_row _ _ _ n (s.castLE (by norm_num))).1

theorem places_sorted (p : FVec Ideal S10000x8 .f32) (n : Fin 10000) (s : Fin 2) :
    places p (ix2 n s) = BitVec.ofNat 32 (sortedFrom (before p n) (s.castLE (by norm_num))) := by
  unfold places Host.topK
  pointwise
  exact (sort_row _ _ _ n (s.castLE (by norm_num))).2

variable (i : IVec S10000x2 32) (b : Fin 10000 → Fin 2 → Fin 8) (hb : ∀ n s, i (ix2 n s) = BitVec.ofNat 32 (b n s))
include hb

theorem chosenWords_at (n : Fin 10000) (s : Fin 2) : chosenWords i (ix3 n s 0) = BitVec.ofNat 32 (b n s) := by
  pointwise [chosenWords]
  rw [hb]
  exact word_unwrapped (b n s).isLt (by norm_num) _

theorem inside2_at (n : Fin 10000) (s : Fin 2) : inside2 (chosenWords i) (ix2 n s) = 1#1 := by
  pointwise [inside2]
  rw [show (univ : Finset (Fin 1)) = {0} from rfl, fold_singleton, chosenWords_at i b hb]
  exact congrArg (IntOp.andi · 1#1) (word_in_range (b n s).isLt (by norm_num))

theorem picked_at (y : FVec Ideal S8x10000x256 .f32) (n : Fin 10000) (s : Fin 2) (d : Fin 256) :
    picked y i (ix3 n s d) = y (ix3 (b n s) n d) := by
  pointwise [picked, inside2_at i b hb]
  refine (take_along _ (by norm_num) _ _ n s (b n s) (chosenWords_at i b hb n s) d).trans ?_
  pointwise

end Choice

theorem blend_at (y : FVec Ideal S10000x2x256 .f32) (v : FVec Ideal S10000x2 .f32) (n : Fin 10000) (d : Fin 256) :
    blend y v (ix2 n d) = y (ix3 n 0 d) * v (ix2 n 0) + y (ix3 n 1 d) * v (ix2 n 1) := by
  pointwise [blend]
  exact Fin.sum_univ_two _

/-! ## The whole, for inputs in range -/

section Whole

variable {A : Inputs} {G : Ends} (h : Good A G)
include h

theorem sources_word (j : Fin 160000) : sources A.edges (ix1 j) = BitVec.ofNat 32 (G.src j) := (sources_at A.edges j).trans (h.src j)

theorem targets_word (j : Fin 160000) : targets A.edges (ix1 j) = BitVec.ofNat 32 (G.dst j) := (targets_at A.edges j).trans (h.dst j)

theorem degree_at (n : Fin 10000) : degrees (counts (targets A.edges)) (ix1 n) = degree G n := by
  rw [degrees_at, counts_at _ G.dst (targets_word h)]; rfl

theorem means_mean (n : Fin 10000) (k : Fin 256) :
    means (sums (rows A.x (sources A.edges)) (targets A.edges)) (degrees (counts (targets A.edges))) (ix2 n k)
      = mean G (fun i => A.x (ix2 i k)) n := by
  rw [means_at, degree_at h, sums_at _ G.dst (targets_word h)]
  simp only [rows_at _ G.src (sources_word h)]
  rfl

theorem means8_mean (y : FVec Ideal S8x10000x256 .f32) (e : Fin 8) (n : Fin 10000) (k : Fin 256) :
    means8 (sums8 (rows8 y (sources A.edges)) (targets A.edges)) (degrees (counts (targets A.edges))) (ix3 e n k)
      = mean G (fun i => y (ix3 e i k)) n := by
  rw [means8_at, degree_at h, sums8_at _ G.dst (targets_word h)]
  simp only [rows8_at _ G.src (sources_word h)]
  rfl

theorem first1_at (e : Fin 8) (n : Fin 10000) (d : Fin 256) :
    first1 A.x A.edges A.wl1 A.bl1 A.wr1 (ix3 e n d) = hidden A G e n d := by
  unfold first1
  rw [layer_at, spread_at, spread_at]
  simp only [means_mean h]
  rfl

theorem second2_at (e : Fin 8) (n : Fin 10000) (d : Fin 256) :
    second2 (first1 A.x A.edges A.wl1 A.bl1 A.wr1) A.edges A.wl2 A.bl2 A.wr2 (ix3 e n d) = outcome A G e n d := by
  unfold second2
  rw [layer_at, product_at, product_at]
  simp only [means8_mean h, first1_at h]
  rfl

theorem weight_at (n : Fin 10000) (e : Fin 8) : softmax (scores A.x A.wg A.bg) (ix2 n e) = gate A n e := by
  rw [softmax_at]
  simp only [scores_at]
  rfl

theorem gate_above (n : Fin 10000) (e : Fin 8) : -1 < gate A n e := soft_above _ (h.logits n) e

theorem before_gate (n : Fin 10000) (a b : Fin 8) :
    before (softmax (scores A.x A.wg A.bg)) n a b = true ↔ gate A n b < gate A n a := by
  rw [before_iff, weight_at h, weight_at h]

/-- A node's two experts. -/
def experts (A : Inputs) (n : Fin 10000) (s : Fin 2) : Fin 8 := if s = 0 then first (gate A n) else second (gate A n)

theorem sorted_experts (n : Fin 10000) (s : Fin 2) :
    sortedFrom (before (softmax (scores A.x A.wg A.bg)) n) (s.castLE (by norm_num)) = experts A n s := by
  match s with
  | 0 => exact sorted_zero (gate A n) _ (before_gate h n)
  | 1 => exact sorted_one (n := 6) (gate A n) (gate_above h n) _ (before_gate h n)

/-- The reference computes the mixture. -/
theorem blend_mixture (n : Fin 10000) (d : Fin 256) :
    blend (picked (second2 (first1 A.x A.edges A.wl1 A.bl1 A.wr1) A.edges A.wl2 A.bl2 A.wr2) (places (softmax (scores A.x A.wg A.bg))))
      (values (softmax (scores A.x A.wg A.bg))) (ix2 n d) = mixture A G n d := by
  have hp : ∀ n s, places (softmax (scores A.x A.wg A.bg)) (ix2 n s) = BitVec.ofNat 32 (experts A n s) := fun n s => by
    rw [places_sorted, sorted_experts h]
  rw [blend_at, picked_at _ (experts A) hp, picked_at _ (experts A) hp, values_sorted, values_sorted, sorted_experts h, sorted_experts h,
    weight_at h, weight_at h, second2_at h, second2_at h]
  rfl

end Whole

end Cert.Proof.Ref
-- ==== Proof.HostValue.lean ====
module

public import proofs.«01_k».proof.Proof.HostStages
public import proofs.«01_k».proof.Proof.RefValue

@[expose] public section

set_option maxRecDepth 16384

noncomputable section

namespace Cert.Proof

open Cert.KernelIdeal Cert.KernelIdeal.Gen
open Idealize.ShloMosaic Idealize.ShloMosaic.TcCoe
open Finset

/-! The operations between the calls at an index. -/

theorem recips_at (c : FVec Ideal S10000 .f32) (n : Fin 10000) : recips c (ix2 n 0) = Ideal.div 1 (max (c (ix1 n)) 1) := by
  pointwise [recips]
  rw [Ref.degrees_at]

/-- The product over the joined columns is the sum of the two products. -/
theorem joined_sum (s x : FVec Ideal S10000x256 .f32) (r : FVec Ideal S10000x1 .f32) (a b : FVec Ideal S8x256x256 .f32) (e : Fin 8)
    (n : Fin 10000) (k : Fin 256) :
    (∑ j : Fin 512, sideBySide s r x (ix2 n j) * above a b (ix3 e j k))
      = (∑ j : Fin 256, s (ix2 n j) * r (ix2 n 0) * a (ix3 e j k)) + ∑ j : Fin 256, x (ix2 n j) * b (ix3 e j k) := by
  pointwise [sideBySide, above]

theorem lifted_at (b : FVec Ideal S8x256 .f32) (e : Fin 8) (k : Fin 256) : lifted b (ix3 e 0 k) = b (ix2 e k) := by
  pointwise [lifted]

/-- A node's row among the stacked rows. -/
def stackRow (e : Fin 8) (n : Fin 10000) : Fin 80000 := ⟨e.val * 10000 + n.val, by omega⟩

theorem stacked_at (y : FVec Ideal S8x10000x256 .f32) (e : Fin 8) (n : Fin 10000) (d : Fin 256) :
    stacked y (ix2 (stackRow e n) d) = y (ix3 e n d) := by
  pointwise [stacked, stackRow]

theorem starts_at (p : IVec S10000x8 32) (n : Fin 10000) (s : Fin 2) :
    starts p (ix2 n s) = p (ix2 n (s.castLE (by norm_num))) * 10000#32 := by
  pointwise [starts]
  rfl

theorem pairs_at (p : IVec S10000x2 32) (i : IVec S160000 32) (b : Fin 160000 → Fin 10000) (hb : ∀ j, i (ix1 j) = BitVec.ofNat 32 (b j))
    (j : Fin 160000) (s : Fin 2) : pairs p i (ix2 j s) = p (ix2 (b j) s) := by
  pointwise [pairs, Ref.inside_at i b hb]
  exact take_row _ rfl rfl rfl rfl rfl (by norm_num) p _ j (b j) (Ref.wrapped_at i b hb j) s

/-- Edge `j` of the first choice and of the second. -/
def edge0 (j : Fin 160000) : Fin 320000 := ⟨j.val, by omega⟩
def edge1 (j : Fin 160000) : Fin 320000 := ⟨160000 + j.val, by omega⟩

theorem edge_cases (i : Fin 320000) : (∃ j, i = edge0 j) ∨ ∃ j, i = edge1 j := by
  rcases Nat.lt_or_ge i.val 160000 with h | h
  · exact Or.inl ⟨⟨i.val, h⟩, rfl⟩
  · exact Or.inr ⟨⟨i.val - 160000, by omega⟩, Fin.ext (by simp [edge1]; omega)⟩

theorem sum_edges (f : Fin 320000 → EReal) : ∑ i, f i = (∑ j, f (edge0 j)) + ∑ j, f (edge1 j) :=
  Fin.sum_univ_add (a := 160000) (b := 160000) f

theorem after2_at0 (a b : IVec S160000 32) (j : Fin 160000) : after2 a b (ix1 (edge0 j)) = a (ix1 j) := by
  pointwise [after2, edge0]

theorem after2_at1 (a b : IVec S160000 32) (j : Fin 160000) : after2 a b (ix1 (edge1 j)) = b (ix1 j) := by
  pointwise [after2, edge1]

theorem reads_at0 (q : IVec S160000x2 32) (s : IVec S160000 32) (j : Fin 160000) :
    reads q s (ix1 (edge0 j)) = q (ix2 j 0) + s (ix1 j) := by
  refine (after2_at0 _ _ j).trans ?_
  pointwise
  rfl

theorem reads_at1 (q : IVec S160000x2 32) (s : IVec S160000 32) (j : Fin 160000) :
    reads q s (ix1 (edge1 j)) = q (ix2 j 1) + s (ix1 j) := by
  refine (after2_at1 _ _ j).trans ?_
  pointwise
  rfl

theorem writes_at0 (t : IVec S160000 32) (j : Fin 160000) : writes t (ix1 (edge0 j)) = t (ix1 j) := after2_at0 _ _ j

theorem writes_at1 (t : IVec S160000 32) (j : Fin 160000) : writes t (ix1 (edge1 j)) = t (ix1 j) + 10000#32 := by
  refine (after2_at1 _ _ j).trans ?_
  pointwise
  rfl

theorem column2_at (i : IVec S320000 32) (j : Fin 320000) : column2 i (ix2 j 0) = i (ix1 j) := by
  pointwise [column2]

theorem wrapped2_at (i : IVec S320000 32) (b : Fin 320000 → Fin 80000) (hb : ∀ j, i (ix1 j) = BitVec.ofNat 32 (b j)) (j : Fin 320000) :
    wrapped2 i (ix2 j 0) = BitVec.ofNat 32 (b j) := by
  refine (column2_at _ j).trans ?_
  pointwise
  rw [hb]
  exact word_unwrapped (b j).isLt (by norm_num) _

theorem inside3_at (i : IVec S320000 32) (b : Fin 320000 → Fin 80000) (hb : ∀ j, i (ix1 j) = BitVec.ofNat 32 (b j)) (j : Fin 320000) :
    inside3 (wrapped2 i) (ix1 j) = 1#1 := by
  pointwise [inside3]
  rw [show (univ : Finset (Fin 1)) = {0} from rfl, fold_singleton, wrapped2_at i b hb]
  exact congrArg (IntOp.andi · 1#1) (word_in_range (b j).isLt (by norm_num))

theorem rows2_at (x : FVec Ideal S80000x256 .f32) (i : IVec S320000 32) (b : Fin 320000 → Fin 80000)
    (hb : ∀ j, i (ix1 j) = BitVec.ofNat 32 (b j)) (j : Fin 320000) (d : Fin 256) : rows2 x i (ix2 j d) = x (ix2 (b j) d) := by
  pointwise [rows2, inside3_at i b hb]
  exact take_row _ rfl rfl rfl rfl rfl (by norm_num) x _ j (b j) (wrapped2_at i b hb j) d

theorem sums2_at (y : FVec Ideal S320000x256 .f32) (t : IVec S320000 32) (b : Fin 320000 → Fin 20000)
    (hb : ∀ j, t (ix1 j) = BitVec.ofNat 32 (b j)) (r : Fin 20000) (d : Fin 256) :
    sums2 y t (ix2 r d) = ∑ j ∈ univ.filter (fun j => b j = r), y (ix2 j d) := by
  refine (add_rows (by norm_num) (column2 t) b (fun j => (column2_at t j).trans (hb j)) _ _ y r d).trans ?_
  pointwise

theorem upper_at (y : FVec Ideal S20000x256 .f32) (n : Fin 10000) (d : Fin 256) : upper y (ix2 n d) = y (ix2 ⟨n.val, by omega⟩ d) := by
  pointwise [upper]

theorem lower_at (y : FVec Ideal S20000x256 .f32) (n : Fin 10000) (d : Fin 256) : lower y (ix2 n d) = y (ix2 ⟨10000 + n.val, by omega⟩ d) := by
  pointwise [lower]

end Cert.Proof
-- ==== Proof.CombineValue.lean ====
module

public import proofs.«01_k».proof.Proof.Combine
public import proofs.«01_k».proof.Proof.GateValue

@[expose] public section

set_option maxRecDepth 16384

noncomputable section

namespace Cert.Proof

open Cert.KernelIdeal Cert.KernelIdeal.Gen
open Idealize.ShloMosaic Idealize.ShloMosaic.TcCoe
open Idealize.ShloMosaic.Pipeline (Dat)
open Finset

/-! What the third call leaves: the two chosen experts' second layers, weighted and added. -/

/-- One choice's part in a row: its weight times its second layer. -/
def choice {n : ℕ} (p o : (⟨2, ![n, 8]⟩ : Shape).Idx → EReal) (g : (⟨2, ![n, 256]⟩ : Shape).Idx → EReal)
    (r : (⟨2, ![n, 1]⟩ : Shape).Idx → EReal) (b : (⟨2, ![8, 256]⟩ : Shape).Idx → EReal)
    (h : (⟨2, ![n, 256]⟩ : Shape).Idx → EReal) (a : Fin n) (d : Fin 256) : EReal :=
  (∑ e : Fin 8, p (ix2 a e) * o (ix2 a e))
    * max (g (ix2 a d) * r (ix2 a 0) + (∑ e : Fin 8, o (ix2 a e) * b (ix2 e d)) + h (ix2 a d)) 0

theorem combined_at (x0 x1 : Vec Ideal S1000x256 .f32) (x2 : Vec Ideal S1000x1 .f32) (x3 x4 x5 : Vec Ideal S1000x8 .f32)
    (x6 : Vec Ideal S8x256 .f32) (x7 x8 : Vec Ideal S1000x256 .f32) (a : Fin 1000) (d : Fin 256) :
    out2_9 x0 x1 x2 x3 x4 x5 x6 x7 x8 (ix2 a d) = choice x3 x4 x0 x2 x6 x7 a d + choice x3 x5 x1 x2 x6 x8 a d := by
  pointwise [out2_9, k2_pay1, k2_pay2, k2_pay3, k2_pay4, k2_pay5, k2_pay6]
  rfl

variable (V : (c : Dev nD) → (b : Ref sig .tc) → Buf (Elt Ideal) ((c : Thread nD τ).loc b))

theorem at2_0 : ∀ t : Fin cfg2.N, win2_0.index t = ![(grid2.coords t 0).val, 0] := (by decide +kernel : ∀ t : Fin grid2.N, _)
theorem at2_1 : ∀ t : Fin cfg2.N, win2_1.index t = ![(grid2.coords t 0).val, 0] := (by decide +kernel : ∀ t : Fin grid2.N, _)
theorem at2_2 : ∀ t : Fin cfg2.N, win2_2.index t = ![(grid2.coords t 0).val, 0] := (by decide +kernel : ∀ t : Fin grid2.N, _)
theorem at2_3 : ∀ t : Fin cfg2.N, win2_3.index t = ![(grid2.coords t 0).val, 0] := (by decide +kernel : ∀ t : Fin grid2.N, _)
theorem at2_4 : ∀ t : Fin cfg2.N, win2_4.index t = ![(grid2.coords t 0).val, 0] := (by decide +kernel : ∀ t : Fin grid2.N, _)
theorem at2_5 : ∀ t : Fin cfg2.N, win2_5.index t = ![(grid2.coords t 0).val, 0] := (by decide +kernel : ∀ t : Fin grid2.N, _)
theorem at2_6 : ∀ t : Fin cfg2.N, win2_6.index t = ![0, 0] := (by decide +kernel : ∀ t : Fin grid2.N, _)
theorem at2_7 : ∀ t : Fin cfg2.N, win2_7.index t = ![(grid2.coords t 0).val, 0] := (by decide +kernel : ∀ t : Fin grid2.N, _)
theorem at2_8 : ∀ t : Fin cfg2.N, win2_8.index t = ![(grid2.coords t 0).val, 0] := (by decide +kernel : ∀ t : Fin grid2.N, _)
theorem at2_9 : ∀ t : Fin cfg2.N, win2_9.index t = ![(grid2.coords t 0).val, 0] := (by decide +kernel : ∀ t : Fin grid2.N, _)

/-- The row of the whole array that is row `a` of the block of point `t`. -/
def rowOf2 (t : Fin cfg2.N) (a : Fin 1000) : Fin 10000 :=
  ⟨(grid2.coords t 0).val * 1000 + a.val, by have h : (grid2.coords t 0).val < 10 := (grid2.coords t 0).isLt; omega⟩

theorem block_choice0 (c : Dev nD) (t : Fin cfg2.N) (a : Fin 1000) (d : Fin 256) :
    choice (n := 1000) (blk2 V c 3 t) (blk2 V c 4 t) (blk2 V c 0 t) (blk2 V c 2 t) (blk2 V c 6 t) (blk2 V c 7 t) a d
      = choice (n := 10000) (V c main_v4_0) (V c main_v4_1) (V c main_v43) (V c main_v17) (V c main_arg8) (V c main_v23_1) (rowOf2 t a) d := by
  have r3 : ∀ e : Fin 8, blk2 V c 3 t (ix2 a e) = V c main_v4_0 (ix2 (rowOf2 t a) e) := by
    intro e; blk_simp [blk2]; congr 1; blk_ext [at2_3, rowOf2]
  have r4 : ∀ e : Fin 8, blk2 V c 4 t (ix2 a e) = V c main_v4_1 (ix2 (rowOf2 t a) e) := by
    intro e; blk_simp [blk2]; congr 1; blk_ext [at2_4, rowOf2]
  have r0 : blk2 V c 0 t (ix2 a d) = V c main_v43 (ix2 (rowOf2 t a) d) := by
    blk_simp [blk2]; congr 1; blk_ext [at2_0, rowOf2]
  have r2 : blk2 V c 2 t (ix2 a 0) = V c main_v17 (ix2 (rowOf2 t a) 0) := by
    blk_simp [blk2]; congr 1; blk_ext [at2_2, rowOf2]
  have r6 : ∀ e : Fin 8, blk2 V c 6 t (ix2 e d) = V c main_arg8 (ix2 e d) := by
    intro e; blk_simp [blk2]; congr 1; blk_ext [at2_6]
  have r7 : blk2 V c 7 t (ix2 a d) = V c main_v23_1 (ix2 (rowOf2 t a) d) := by
    blk_simp [blk2]; congr 1; blk_ext [at2_7, rowOf2]
  unfold choice
  rw [r0, r2, r7]
  simp only [r3, r4, r6]

theorem block_choice1 (c : Dev nD) (t : Fin cfg2.N) (a : Fin 1000) (d : Fin 256) :
    choice (n := 1000) (blk2 V c 3 t) (blk2 V c 5 t) (blk2 V c 1 t) (blk2 V c 2 t) (blk2 V c 6 t) (blk2 V c 8 t) a d
      = choice (n := 10000) (V c main_v4_0) (V c main_v4_2) (V c main_v44) (V c main_v17) (V c main_arg8) (V c main_v23_2) (rowOf2 t a) d := by
  have r3 : ∀ e : Fin 8, blk2 V c 3 t (ix2 a e) = V c main_v4_0 (ix2 (rowOf2 t a) e) := by
    intro e; blk_simp [blk2]; congr 1; blk_ext [at2_3, rowOf2]
  have r5 : ∀ e : Fin 8, blk2 V c 5 t (ix2 a e) = V c main_v4_2 (ix2 (rowOf2 t a) e) := by
    intro e; blk_simp [blk2]; congr 1; blk_ext [at2_5, rowOf2]
  have r1 : blk2 V c 1 t (ix2 a d) = V c main_v44 (ix2 (rowOf2 t a) d) := by
    blk_simp [blk2]; congr 1; blk_ext [at2_1, rowOf2]
  have r2 : blk2 V c 2 t (ix2 a 0) = V c main_v17 (ix2 (rowOf2 t a) 0) := by
    blk_simp [blk2]; congr 1; blk_ext [at2_2, rowOf2]
  have r6 : ∀ e : Fin 8, blk2 V c 6 t (ix2 e d) = V c main_arg8 (ix2 e d) := by
    intro e; blk_simp [blk2]; congr 1; blk_ext [at2_6]
  have r8 : blk2 V c 8 t (ix2 a d) = V c main_v23_2 (ix2 (rowOf2 t a) d) := by
    blk_simp [blk2]; congr 1; blk_ext [at2_8, rowOf2]
  unfold choice
  rw [r1, r2, r8]
  simp only [r3, r5, r6]

/-- The result. -/
theorem combine_result (c : Dev nD) :
    (dat2 V c).arrAt 9 cfg2.N = fun i =>
      choice (n := 10000) (V c main_v4_0) (V c main_v4_1) (V c main_v43) (V c main_v17) (V c main_arg8) (V c main_v23_1) (i 0) (i 1)
        + choice (n := 10000) (V c main_v4_0) (V c main_v4_2) (V c main_v44) (V c main_v17) (V c main_arg8) (V c main_v23_2) (i 0) (i 1) := by
  refine (dat2 V c).arrAt_eq_of_covers 9 _ (by decide +kernel) fun t hf y => ?_
  blk_simp
  rw [after2_9]
  obtain ⟨a, d, rfl⟩ : ∃ (a : Fin 1000) (d : Fin 256), y = ix2 a d := ⟨y 0, y 1, eq_ix2 y⟩
  have place : ((cfg2.win 9).blk t).view.emb (ix2 a d) = ix2 (rowOf2 t a) d := by blk_ext [at2_9, rowOf2]
  rw [place]
  refine (combined_at _ _ _ _ _ _ _ _ _ a d).trans ?_
  rw [block_choice0, block_choice1]
  rfl

end Cert.Proof
-- ==== Proof.ExpertsValue.lean ====
module

public import proofs.«01_k».proof.Proof.Experts
public import proofs.«01_k».proof.Proof.GateValue

@[expose] public section

set_option maxRecDepth 16384

noncomputable section

namespace Cert.Proof

open Cert.KernelIdeal Cert.KernelIdeal.Gen
open Idealize.ShloMosaic Idealize.ShloMosaic.TcCoe
open Idealize.ShloMosaic.Pipeline (Dat)
open Finset

/-! What the second call leaves: each expert's first layer times the second layer's left matrix, and, for each of a
row's two choices, the chosen expert's first layer times the second layer's right matrix. -/

/-- A row's first layer under an expert, from the joined inputs and the joined matrices. -/
def joined {n m : ℕ} (x : (⟨2, ![n, 512]⟩ : Shape).Idx → EReal) (w : (⟨3, ![m, 512, 256]⟩ : Shape).Idx → EReal)
    (b : (⟨3, ![m, 1, 256]⟩ : Shape).Idx → EReal) (e : Fin m) (a : Fin n) (k : Fin 256) : EReal :=
  max ((∑ j : Fin 512, x (ix2 a j) * w (ix3 e j k)) + b (ix3 e 0 k)) 0

section Payloads

variable (x0 : Vec Ideal S1000x512 .f32) (x1 : Vec Ideal S1x512x256 .f32) (x2 : Vec Ideal S1x1x256 .f32)
  (x3 : Vec Ideal S1x256x256 .f32)

theorem joined_at (a : Fin 1000) (k : Fin 256) : k1_pay6 x0 x1 x2 (ix2 a k) = joined x0 x1 x2 0 a k := by
  pointwise [k1_pay6]
  rfl

theorem left_at (a : Fin 1000) (d : Fin 256) :
    k1_pay7 x0 x1 x2 x3 (ix3 0 a d) = ∑ k : Fin 256, joined x0 x1 x2 0 a k * x3 (ix3 0 k d) := by
  pointwise [k1_pay7]
  simp only [joined_at]

theorem right_at (a : Fin 1000) (d : Fin 256) :
    k1_pay8 x0 x1 x2 x3 (ix2 a d) = ∑ k : Fin 256, joined x0 x1 x2 0 a k * x3 (ix3 0 k d) := by
  pointwise [k1_pay8]
  simp only [joined_at]

theorem expert_indicator (i : grid1.Coords) (e : Fin 8) (he : (i 1).val = e.val) (a : Fin 1000) (x : Fin 8) :
    k1_pay9 (F := Ideal) i (ix2 a x) = if x = e then (1 : EReal) else 0 := by
  pointwise [k1_pay9]
  rw [he]
  exact indicator_word _ _

theorem share_at (i : grid1.Coords) (e : Fin 8) (he : (i 1).val = e.val) (y : Vec Ideal S1000x8 .f32) (a : Fin 1000) :
    k1_pay10 i y (ix2 a 0) = y (ix2 a e) := by
  pointwise [k1_pay10]
  simp only [expert_indicator i e he]
  exact sum_indicator_right _ _

theorem share_at' (i : grid1.Coords) (e : Fin 8) (he : (i 1).val = e.val) (y : Vec Ideal S1000x8 .f32) (a : Fin 1000) :
    k1_pay1 (k1_pay9 (F := Ideal) i) y (ix2 a 0) = y (ix2 a e) := by
  pointwise [k1_pay1]
  simp only [expert_indicator i e he]
  exact sum_indicator_right _ _

variable (i : grid1.Coords) (e : Fin 8) (he : (i 1).val = e.val) (y : Vec Ideal S1000x8 .f32) (z : Vec Ideal S1000x256 .f32)
  (a : Fin 1000) (d : Fin 256)
include he

theorem first8_at : first8 i x0 x1 x2 x3 y (ix2 a d) = y (ix2 a e) * ∑ k : Fin 256, joined x0 x1 x2 0 a k * x3 (ix3 0 k d) := by
  pointwise [first8, k1_pay2]
  rw [share_at i e he, right_at]

theorem first9_at : first9 i x0 x1 x2 x3 y (ix2 a d) = y (ix2 a e) * ∑ k : Fin 256, joined x0 x1 x2 0 a k * x3 (ix3 0 k d) := by
  pointwise [first9, k1_pay3]
  rw [share_at' i e he, right_at]

theorem next8_at :
    next8 i x0 x1 x2 x3 y z (ix2 a d) = z (ix2 a d) + y (ix2 a e) * ∑ k : Fin 256, joined x0 x1 x2 0 a k * x3 (ix3 0 k d) := by
  pointwise [next8, k1_pay4]
  rw [share_at i e he, right_at]

theorem next9_at :
    next9 i x0 x1 x2 x3 y z (ix2 a d) = z (ix2 a d) + y (ix2 a e) * ∑ k : Fin 256, joined x0 x1 x2 0 a k * x3 (ix3 0 k d) := by
  pointwise [next9, k1_pay5]
  rw [share_at' i e he, right_at]

end Payloads

variable (V : (c : Dev nD) → (b : Ref sig .tc) → Buf (Elt Ideal) ((c : Thread nD τ).loc b))

/-- The block of rows, and the expert, of a point. -/
def rowsOf (n : ℕ) : Fin 10 := ⟨n / 8 % 10, Nat.mod_lt _ (by decide)⟩
def expertOf (n : ℕ) : Fin 8 := ⟨n % 8, Nat.mod_lt _ (by decide)⟩

theorem coords1_0 : ∀ t : Fin cfg1.N, (grid1.coords t 0).val = (rowsOf t.val).val := (by decide +kernel : ∀ t : Fin grid1.N, _)
theorem coords1_1 : ∀ t : Fin cfg1.N, (grid1.coords t 1).val = (expertOf t.val).val := (by decide +kernel : ∀ t : Fin grid1.N, _)

theorem at1_0 : ∀ t : Fin cfg1.N, win1_0.index t = ![(rowsOf t.val).val, 0] := (by decide +kernel : ∀ t : Fin grid1.N, _)
theorem at1_1 : ∀ t : Fin cfg1.N, win1_1.index t = ![(expertOf t.val).val, 0, 0] := (by decide +kernel : ∀ t : Fin grid1.N, _)
theorem at1_2 : ∀ t : Fin cfg1.N, win1_2.index t = ![(expertOf t.val).val, 0, 0] := (by decide +kernel : ∀ t : Fin grid1.N, _)
theorem at1_3 : ∀ t : Fin cfg1.N, win1_3.index t = ![(expertOf t.val).val, 0, 0] := (by decide +kernel : ∀ t : Fin grid1.N, _)
theorem at1_4 : ∀ t : Fin cfg1.N, win1_4.index t = ![(expertOf t.val).val, 0, 0] := (by decide +kernel : ∀ t : Fin grid1.N, _)
theorem at1_5 : ∀ t : Fin cfg1.N, win1_5.index t = ![(rowsOf t.val).val, 0] := (by decide +kernel : ∀ t : Fin grid1.N, _)
theorem at1_6 : ∀ t : Fin cfg1.N, win1_6.index t = ![(rowsOf t.val).val, 0] := (by decide +kernel : ∀ t : Fin grid1.N, _)
theorem at1_7 : ∀ t : Fin cfg1.N, win1_7.index t = ![(expertOf t.val).val, (rowsOf t.val).val, 0] := (by decide +kernel : ∀ t : Fin grid1.N, _)
theorem at1_8 : ∀ t : Fin cfg1.N, win1_8.index t = ![(rowsOf t.val).val, 0] := (by decide +kernel : ∀ t : Fin grid1.N, _)
theorem at1_9 : ∀ t : Fin cfg1.N, win1_9.index t = ![(rowsOf t.val).val, 0] := (by decide +kernel : ∀ t : Fin grid1.N, _)

/-- The row of the whole array that is row `a` of the block of rows `r`. -/
def rowAt (r : Fin 10) (a : Fin 1000) : Fin 10000 := ⟨r.val * 1000 + a.val, by omega⟩

/-- The first layer as the second call's arguments give it. -/
abbrev layer1 (c : Dev nD) (e : Fin 8) (n : Fin 10000) (k : Fin 256) : EReal :=
  joined (n := 10000) (m := 8) (V c main_v20) (V c main_v21) (V c main_v22) e n k

theorem block_joined (c : Dev nD) (t : Fin cfg1.N) (a : Fin 1000) (k : Fin 256) :
    joined (n := 1000) (m := 1) (blk1 V c 0 t) (blk1 V c 1 t) (blk1 V c 2 t) 0 a k
      = layer1 V c (expertOf t.val) (rowAt (rowsOf t.val) a) k := by
  have r0 : ∀ j : Fin 512, blk1 V c 0 t (ix2 a j) = V c main_v20 (ix2 (rowAt (rowsOf t.val) a) j) := by
    intro j; blk_simp [blk1]; congr 1; blk_ext [at1_0, rowAt]
  have r1 : ∀ j : Fin 512, blk1 V c 1 t (ix3 0 j k) = V c main_v21 (ix3 (expertOf t.val) j k) := by
    intro j; blk_simp [blk1]; congr 1; blk_ext [at1_1]
  have r2 : blk1 V c 2 t (ix3 0 0 k) = V c main_v22 (ix3 (expertOf t.val) 0 k) := by
    blk_simp [blk1]; congr 1; blk_ext [at1_2]
  unfold layer1 joined
  rw [r2]
  simp only [r0, r1]

theorem block_left (c : Dev nD) (t : Fin cfg1.N) (k d : Fin 256) :
    blk1 V c 3 t (ix3 0 k d) = V c main_arg7 (ix3 (expertOf t.val) k d) := by
  blk_simp [blk1]; congr 1; blk_ext [at1_3]

theorem block_right (c : Dev nD) (t : Fin cfg1.N) (k d : Fin 256) :
    blk1 V c 4 t (ix3 0 k d) = V c main_arg9 (ix3 (expertOf t.val) k d) := by
  blk_simp [blk1]; congr 1; blk_ext [at1_4]

theorem block_share8 (c : Dev nD) (t : Fin cfg1.N) (a : Fin 1000) (e : Fin 8) :
    blk1 V c 5 t (ix2 a e) = V c main_v4_1 (ix2 (rowAt (rowsOf t.val) a) e) := by
  blk_simp [blk1]; congr 1; blk_ext [at1_5, rowAt]

theorem block_share9 (c : Dev nD) (t : Fin cfg1.N) (a : Fin 1000) (e : Fin 8) :
    blk1 V c 6 t (ix2 a e) = V c main_v4_2 (ix2 (rowAt (rowsOf t.val) a) e) := by
  blk_simp [blk1]; congr 1; blk_ext [at1_6, rowAt]

/-- The first layer times the second layer's left matrix. -/
theorem experts_left (c : Dev nD) :
    (dat1 V c).arrAt 7 cfg1.N
      = fun i => ∑ k : Fin 256, layer1 V c (i 0) (i 1) k * (V c main_arg7 (ix3 (i 0) k (i 2)) : EReal) := by
  refine (dat1 V c).arrAt_eq_of_covers 7 _ (by decide +kernel) fun t hf y => ?_
  blk_simp
  rw [after1_7]
  obtain ⟨u, a, d, rfl⟩ : ∃ (u : Fin 1) (a : Fin 1000) (d : Fin 256), y = ix3 u a d := ⟨y 0, y 1, y 2, eq_ix3 y⟩
  obtain rfl : u = 0 := Subsingleton.elim _ _
  have place : ((cfg1.win 7).blk t).view.emb (ix3 0 a d) = ix3 (expertOf t.val) (rowAt (rowsOf t.val) a) d := by
    blk_ext [at1_7, rowAt]
  rw [place]
  unfold out1_7
  refine (left_at _ _ _ _ a d).trans ?_
  simp only [block_joined, block_left]
  rfl

/-- One expert's part in the running sum of a row under the first choice. -/
def part (c : Dev nD) (w : (⟨2, ![10000, 8]⟩ : Shape).Idx → EReal) (n : Fin 10000) (e : Fin 8) (d : Fin 256) : EReal :=
  w (ix2 n e) * ∑ k : Fin 256, layer1 V c e n k * (V c main_arg9 (ix3 e k d) : EReal)

theorem sums_at (c : Dev nD) (a : Fin 1000) (d : Fin 256) : ∀ (n : ℕ) (h : n < cfg1.N),
    (sums V c n h).1 (ix2 a d) = ∑ s ∈ range (n % 8 + 1), part V c (V c main_v4_1) (rowAt (rowsOf n) a) (expertOf s) d
    ∧ (sums V c n h).2 (ix2 a d) = ∑ s ∈ range (n % 8 + 1), part V c (V c main_v4_2) (rowAt (rowsOf n) a) (expertOf s) d := by
  intro n
  induction n with
  | zero =>
    intro h
    have e := sums_first V c ⟨0, h⟩ rfl
    dsimp only at e
    rw [e]
    constructor
    · refine (first8_at _ _ _ _ _ _ (coords1_1 ⟨0, h⟩) _ a d).trans ?_
      simp only [block_joined, block_right, block_share8]
      simp [part]
    · refine (first9_at _ _ _ _ _ _ (coords1_1 ⟨0, h⟩) _ a d).trans ?_
      simp only [block_joined, block_right, block_share9]
      simp [part]
  | succ n ih =>
    intro h
    have hx : expertOf (n + 1) = expertOf ((n + 1) % 8) := Fin.ext (by simp [expertOf])
    by_cases hz : (n + 1) % 8 = 0
    · have e := sums_first V c ⟨n + 1, h⟩ hz
      dsimp only at e
      rw [e]
      constructor
      · refine (first8_at _ _ _ _ _ _ (coords1_1 ⟨n + 1, h⟩) _ a d).trans ?_
        simp only [block_joined, block_right, block_share8, hx, hz]
        simp [part]
      · refine (first9_at _ _ _ _ _ _ (coords1_1 ⟨n + 1, h⟩) _ a d).trans ?_
        simp only [block_joined, block_right, block_share9, hx, hz]
        simp [part]
    · have e := sums_next V c ⟨n + 1, h⟩ hz
      dsimp only at e
      rw [e]
      have hn : n < cfg1.N := Nat.lt_of_succ_lt h
      have hm : (n + 1) % 8 = n % 8 + 1 := by omega
      have hr : rowsOf (n + 1) = rowsOf n := Fin.ext (by simp only [rowsOf]; omega)
      obtain ⟨i1, i2⟩ := ih hn
      constructor
      · refine (next8_at _ _ _ _ _ _ (coords1_1 ⟨n + 1, h⟩) _ _ a d).trans ?_
        simp only [block_joined, block_right, block_share8, Nat.add_sub_cancel, i1]
        rw [hm, sum_range_succ _ (n % 8 + 1), hx, hm, hr]
        rfl
      · refine (next9_at _ _ _ _ _ _ (coords1_1 ⟨n + 1, h⟩) _ _ a d).trans ?_
        simp only [block_joined, block_right, block_share9, Nat.add_sub_cancel, i2]
        rw [hm, sum_range_succ _ (n % 8 + 1), hx, hm, hr]
        rfl

theorem sum_experts (f : Fin 8 → EReal) : ∑ s ∈ range 8, f (expertOf s) = ∑ e : Fin 8, f e := by
  rw [sum_range]
  exact sum_congr rfl fun e _ => congrArg f (Fin.ext (Nat.mod_eq_of_lt e.isLt))

/-- Under the first choice's shares. -/
theorem experts_right8 (c : Dev nD) :
    (dat1 V c).arrAt 8 cfg1.N = fun i => ∑ e : Fin 8, part V c (V c main_v4_1) (i 0) e (i 1) := by
  refine (dat1 V c).arrAt_eq_of_covers 8 _ (by decide +kernel) fun t hf y => ?_
  blk_simp
  rw [after1_8]
  obtain ⟨a, d, rfl⟩ : ∃ (a : Fin 1000) (d : Fin 256), y = ix2 a d := ⟨y 0, y 1, eq_ix2 y⟩
  have place : ((cfg1.win 8).blk t).view.emb (ix2 a d) = ix2 (rowAt (rowsOf t.val) a) d := by blk_ext [at1_8, rowAt]
  rw [place]
  refine (sums_at V c a d t.val t.isLt).1.trans ?_
  rw [(flush1_8 t).mp hf]
  exact sum_experts fun e => part V c (V c main_v4_1) (rowAt (rowsOf t.val) a) e d

/-- Under the second choice's shares. -/
theorem experts_right9 (c : Dev nD) :
    (dat1 V c).arrAt 9 cfg1.N = fun i => ∑ e : Fin 8, part V c (V c main_v4_2) (i 0) e (i 1) := by
  refine (dat1 V c).arrAt_eq_of_covers 9 _ (by decide +kernel) fun t hf y => ?_
  blk_simp
  rw [after1_9]
  obtain ⟨a, d, rfl⟩ : ∃ (a : Fin 1000) (d : Fin 256), y = ix2 a d := ⟨y 0, y 1, eq_ix2 y⟩
  have place : ((cfg1.win 9).blk t).view.emb (ix2 a d) = ix2 (rowAt (rowsOf t.val) a) d := by blk_ext [at1_9, rowAt]
  rw [place]
  refine (sums_at V c a d t.val t.isLt).2.trans ?_
  rw [(flush1_9 t).mp hf]
  exact sum_experts fun e => part V c (V c main_v4_2) (rowAt (rowsOf t.val) a) e d

end Cert.Proof
-- ==== Proof.KernelValue.lean ====
module

public import proofs.«01_k».proof.Proof.HostValue
public import proofs.«01_k».proof.Proof.CombineValue
public import proofs.«01_k».proof.Proof.ExpertsValue

@[expose] public section

set_option maxRecDepth 16384

noncomputable section

namespace Cert.Proof

open Cert.KernelIdeal Cert.KernelIdeal.Gen
open Idealize.ShloMosaic Idealize.ShloMosaic.TcCoe
open Finset

/-! What the kernel's program leaves, boundary by boundary, for inputs in range. -/

section Passing

variable (m : (ℓ : Loc nD τ sig) → Buf (Elt Ideal) ℓ) (c : Dev nD) (b : Ref sig .tc)

theorem pass2 (h : ∀ w, Pipeline.arrRef spec0 w = b → (cfg0.win w).isOut = false) : bufs2 m c b = bufs1 m c b := leave0_keeps m c b h
theorem pass3 (h : b ∉ hostOps1_W) : bufs3 m c b = bufs2 m c b := StableHlo.after_of_writes_sub hostOps1 _ hostOps1_writes h
theorem pass4 (h : b ∉ hostOps1_1_W) : bufs4 m c b = bufs3 m c b := StableHlo.after_of_writes_sub hostOps1_1 _ hostOps1_1_writes h
theorem pass5 (h : b ∉ hostOps1_2_W) : bufs5 m c b = bufs4 m c b := StableHlo.after_of_writes_sub hostOps1_2 _ hostOps1_2_writes h
theorem pass6 (h : ∀ w, Pipeline.arrRef spec1 w = b → (cfg1.win w).isOut = false) : bufs6 m c b = bufs5 m c b := leave1_keeps m c b h
theorem pass7 (h : b ∉ hostOps2_W) : bufs7 m c b = bufs6 m c b := StableHlo.after_of_writes_sub hostOps2 _ hostOps2_writes h
theorem pass8 (h : b ∉ hostOps2_1_W) : bufs8 m c b = bufs7 m c b := StableHlo.after_of_writes_sub hostOps2_1 _ hostOps2_1_writes h
theorem pass9 (h : b ∉ hostOps2_2_W) : bufs9 m c b = bufs8 m c b := StableHlo.after_of_writes_sub hostOps2_2 _ hostOps2_2_writes h
theorem pass10 (h : b ∉ hostOps2_3_W) : bufs10 m c b = bufs9 m c b := StableHlo.after_of_writes_sub hostOps2_3 _ hostOps2_3_writes h
theorem pass11 (h : b ∉ hostOps2_4_W) : bufs11 m c b = bufs10 m c b := StableHlo.after_of_writes_sub hostOps2_4 _ hostOps2_4_writes h

/-- From the first call's end to the second's start. -/
theorem pass_early (h3 : b ∉ hostOps1_W) (h4 : b ∉ hostOps1_1_W) (h5 : b ∉ hostOps1_2_W) : bufs5 m c b = bufs2 m c b :=
  (pass5 m c b h5).trans ((pass4 m c b h4).trans (pass3 m c b h3))

/-- From the second call's end to the third's start. -/
theorem pass_late (h7 : b ∉ hostOps2_W) (h8 : b ∉ hostOps2_1_W) (h9 : b ∉ hostOps2_2_W) (h10 : b ∉ hostOps2_3_W) (h11 : b ∉ hostOps2_4_W) :
    bufs11 m c b = bufs6 m c b :=
  (pass11 m c b h11).trans ((pass10 m c b h10).trans ((pass9 m c b h9).trans ((pass8 m c b h8).trans (pass7 m c b h7))))

end Passing

/-- The inputs as the launch finds them. -/
def inputs (m : (ℓ : Loc nD τ sig) → Buf (Elt Ideal) ℓ) (c : Dev nD) : Inputs where
  x := m ((c : Thread nD τ).loc main_arg0)
  edges := m ((c : Thread nD τ).loc main_arg1)
  wg := m ((c : Thread nD τ).loc main_arg2)
  bg := m ((c : Thread nD τ).loc main_arg3)
  wl1 := m ((c : Thread nD τ).loc main_arg4)
  bl1 := m ((c : Thread nD τ).loc main_arg5)
  wr1 := m ((c : Thread nD τ).loc main_arg6)
  wl2 := m ((c : Thread nD τ).loc main_arg7)
  bl2 := m ((c : Thread nD τ).loc main_arg8)
  wr2 := m ((c : Thread nD τ).loc main_arg9)

section Edges

variable (m : (ℓ : Loc nD τ sig) → Buf (Elt Ideal) ℓ) (c : Dev nD)

theorem v1_3 : bufs3 m c main_v1 = Ref.sources (inputs m c).edges :=
  (pass3 m c main_v1 (by decide +kernel)).trans ((pass2 m c main_v1 (by decide +kernel)).trans (after0_v1 _))

theorem v1_8 : bufs8 m c main_v1 = Ref.sources (inputs m c).edges :=
  (pass8 m c main_v1 (by decide +kernel)).trans ((pass7 m c main_v1 (by decide +kernel)).trans
    ((pass6 m c main_v1 (by decide +kernel)).trans ((pass5 m c main_v1 (by decide +kernel)).trans
    ((pass4 m c main_v1 (by decide +kernel)).trans (v1_3 m c)))))

theorem v3_2 : bufs2 m c main_v3 = Ref.targets (inputs m c).edges :=
  (pass2 m c main_v3 (by decide +kernel)).trans (after0_v3 _)

theorem v3_4 : bufs4 m c main_v3 = Ref.targets (inputs m c).edges :=
  (pass4 m c main_v3 (by decide +kernel)).trans ((pass3 m c main_v3 (by decide +kernel)).trans (v3_2 m c))

theorem v3_7 : bufs7 m c main_v3 = Ref.targets (inputs m c).edges :=
  (pass7 m c main_v3 (by decide +kernel)).trans ((pass6 m c main_v3 (by decide +kernel)).trans
    ((pass5 m c main_v3 (by decide +kernel)).trans (v3_4 m c)))

theorem v3_8 : bufs8 m c main_v3 = Ref.targets (inputs m c).edges := (pass8 m c main_v3 (by decide +kernel)).trans (v3_7 m c)

theorem v8_4 : bufs4 m c main_v8 = Ref.counts (Ref.targets (inputs m c).edges) :=
  (pass4 m c main_v8 (by decide +kernel)).trans ((after1_v8 _).trans (congrArg Ref.counts (v3_2 m c)))

theorem v9_4 : bufs4 m c main_v9 = Ref.rows (inputs m c).x (Ref.sources (inputs m c).edges) :=
  (after1_1_v9 _).trans (congrArg₂ Ref.rows (args_bufs3 m c main_arg0 (by simp)) (v1_3 m c))

theorem v17_5 : bufs5 m c main_v17 = recips (Ref.counts (Ref.targets (inputs m c).edges)) :=
  (after1_2_v17 _).trans (congrArg recips (v8_4 m c))

theorem v20_5 : bufs5 m c main_v20
    = sideBySide (Ref.sums (Ref.rows (inputs m c).x (Ref.sources (inputs m c).edges)) (Ref.targets (inputs m c).edges))
        (recips (Ref.counts (Ref.targets (inputs m c).edges))) (inputs m c).x := by
  refine (after1_2_v20 _).trans ?_
  rw [v9_4, v3_4, v8_4, args_bufs4 m c main_arg0 (by simp)]
  rfl

theorem v21_5 : bufs5 m c main_v21 = above (inputs m c).wl1 (inputs m c).wr1 :=
  (after1_2_v21 _).trans (congrArg₂ above (args_bufs4 m c main_arg4 (by simp)) (args_bufs4 m c main_arg6 (by simp)))

theorem v22_5 : bufs5 m c main_v22 = lifted (inputs m c).bl1 :=
  (after1_2_v22 _).trans (congrArg lifted (args_bufs4 m c main_arg5 (by simp)))

/-! ## What the first call leaves -/

theorem weights_gate (n : Fin 10000) : weights (enter0 m) c n = gate (inputs m c) n := by
  unfold weights
  rw [show enter0 m c main_arg0 = _ from args_bufs1 m c main_arg0 (by simp), show enter0 m c main_arg2 = _ from args_bufs1 m c main_arg2 (by simp),
    show enter0 m c main_arg3 = _ from args_bufs1 m c main_arg3 (by simp)]
  rfl

/-- One where the two are the same, zero elsewhere. -/
def same (f e : Fin 8) : EReal := if e = f then 1 else 0

/-- The indicator of a choice. -/
def indicator (f : Fin 10000 → Fin 8) (i : (⟨2, ![10000, 8]⟩ : Shape).Idx) : EReal := same (f (i 0)) (i 1)

theorem indicator_at (f : Fin 10000 → Fin 8) (n : Fin 10000) (e : Fin 8) : indicator f (ix2 n e) = if e = f n then 1 else 0 := rfl

theorem p_2 : bufs2 m c main_v4_0 = fun i => gate (inputs m c) (i 0) (i 1) := by
  refine (leave0_arr m c 3).trans ((gate_weights _ c).trans ?_)
  funext i
  exact congrArg (fun q : Fin 8 → EReal => q (i 1)) (weights_gate m c (i 0))

theorem first_2 : bufs2 m c main_v4_1 = indicator fun n => first (gate (inputs m c) n) := by
  refine (leave0_arr m c 4).trans ((gate_first _ c).trans ?_)
  funext i
  exact congrArg (fun q : Fin 8 → EReal => same (first q) (i 1)) (weights_gate m c (i 0))

theorem second_2 : bufs2 m c main_v4_2 = indicator fun n => second (gate (inputs m c) n) := by
  refine (leave0_arr m c 5).trans ((gate_second _ c).trans ?_)
  funext i
  exact congrArg (fun q : Fin 8 → EReal => same (second q) (i 1)) (weights_gate m c (i 0))

theorem chosen_2 : bufs2 m c main_v4_3 = fun i => chosen (gate (inputs m c) (i 0)) (i 1) := by
  refine (leave0_arr m c 6).trans ((gate_chosen _ c).trans ?_)
  funext i
  exact congrArg (fun q : Fin 8 → EReal => chosen q (i 1)) (weights_gate m c (i 0))

theorem first_5 : bufs5 m c main_v4_1 = indicator fun n => first (gate (inputs m c) n) :=
  (pass_early m c main_v4_1 (by decide +kernel) (by decide +kernel) (by decide +kernel)).trans (first_2 m c)

theorem second_5 : bufs5 m c main_v4_2 = indicator fun n => second (gate (inputs m c) n) :=
  (pass_early m c main_v4_2 (by decide +kernel) (by decide +kernel) (by decide +kernel)).trans (second_2 m c)

theorem chosen_6 : bufs6 m c main_v4_3 = fun i => chosen (gate (inputs m c) (i 0)) (i 1) :=
  (pass6 m c main_v4_3 (by decide +kernel)).trans
    ((pass_early m c main_v4_3 (by decide +kernel) (by decide +kernel) (by decide +kernel)).trans (chosen_2 m c))

theorem p_11 : bufs11 m c main_v4_0 = fun i => gate (inputs m c) (i 0) (i 1) :=
  (pass_late m c main_v4_0 (by decide +kernel) (by decide +kernel) (by decide +kernel) (by decide +kernel) (by decide +kernel)).trans
    ((pass6 m c main_v4_0 (by decide +kernel)).trans
    ((pass_early m c main_v4_0 (by decide +kernel) (by decide +kernel) (by decide +kernel)).trans (p_2 m c)))

theorem first_11 : bufs11 m c main_v4_1 = indicator fun n => first (gate (inputs m c) n) :=
  (pass_late m c main_v4_1 (by decide +kernel) (by decide +kernel) (by decide +kernel) (by decide +kernel) (by decide +kernel)).trans
    ((pass6 m c main_v4_1 (by decide +kernel)).trans (first_5 m c))

theorem second_11 : bufs11 m c main_v4_2 = indicator fun n => second (gate (inputs m c) n) :=
  (pass_late m c main_v4_2 (by decide +kernel) (by decide +kernel) (by decide +kernel) (by decide +kernel) (by decide +kernel)).trans
    ((pass6 m c main_v4_2 (by decide +kernel)).trans (second_5 m c))

theorem v17_11 : bufs11 m c main_v17 = recips (Ref.counts (Ref.targets (inputs m c).edges)) :=
  (pass_late m c main_v17 (by decide +kernel) (by decide +kernel) (by decide +kernel) (by decide +kernel) (by decide +kernel)).trans
    ((pass6 m c main_v17 (by decide +kernel)).trans (v17_5 m c))

end Edges

section Layers

variable {m : (ℓ : Loc nD τ sig) → Buf (Elt Ideal) ℓ} {c : Dev nD} {G : Ends} (h : Good (inputs m c) G)
include h

theorem recips_degree (n : Fin 10000) : recips (Ref.counts (Ref.targets (inputs m c).edges)) (ix2 n 0) = Ideal.div 1 (degree G n) := by
  rw [recips_at, Ref.counts_at _ G.dst (Ref.targets_word h)]; rfl

/-! ## What the second call leaves -/

theorem layer1_hidden (e : Fin 8) (n : Fin 10000) (k : Fin 256) : layer1 (enter1 m) c e n k = hidden (inputs m c) G e n k := by
  unfold layer1 joined
  rw [show enter1 m c main_v20 = _ from v20_5 m c, show enter1 m c main_v21 = _ from v21_5 m c, show enter1 m c main_v22 = _ from v22_5 m c,
    joined_sum, lifted_at]
  simp only [recips_degree h, Ref.sums_at _ G.dst (Ref.targets_word h), Ref.rows_at _ G.src (Ref.sources_word h)]
  unfold hidden
  simp only [mean_eq, total, Ends.into]
  rw [add_right_comm]

theorem left_6 (e : Fin 8) (n : Fin 10000) (d : Fin 256) :
    bufs6 m c main_v23_0 (ix3 e n d) = ∑ k : Fin 256, hidden (inputs m c) G e n k * (inputs m c).wl2 (ix3 e k d) := by
  refine (congrFun ((leave1_arr m c 7).trans (experts_left _ c)) (ix3 e n d)).trans ?_
  show (∑ k : Fin 256, layer1 (enter1 m) c e n k * (enter1 m c main_arg7 (ix3 e k d) : EReal)) = _
  refine sum_congr rfl fun k _ => ?_
  exact congrArg₂ (· * ·) (layer1_hidden h e n k) (congrFun (args_bufs5 m c main_arg7 (by simp)) _)

theorem parts (f : Fin 10000 → Fin 8) (n : Fin 10000) (d : Fin 256) :
    (∑ e : Fin 8, part (enter1 m) c (indicator f) n e d)
      = ∑ k : Fin 256, hidden (inputs m c) G (f n) n k * (inputs m c).wr2 (ix3 (f n) k d) := by
  unfold part
  refine (sum_congr rfl fun e _ => ?_).trans
    (sum_indicator (fun e => ∑ k : Fin 256, hidden (inputs m c) G e n k * (inputs m c).wr2 (ix3 e k d)) (f n))
  refine congrArg₂ (· * ·) (indicator_at f n e) (sum_congr rfl fun k _ => ?_)
  exact congrArg₂ (· * ·) (layer1_hidden h e n k) (congrFun (args_bufs5 m c main_arg9 (by simp)) _)

theorem right1_11 (n : Fin 10000) (d : Fin 256) :
    bufs11 m c main_v23_1 (ix2 n d) = ∑ k : Fin 256, hidden (inputs m c) G (first (gate (inputs m c) n)) n k
      * (inputs m c).wr2 (ix3 (first (gate (inputs m c) n)) k d) := by
  refine (congrFun ((pass_late m c main_v23_1 (by decide +kernel) (by decide +kernel) (by decide +kernel) (by decide +kernel)
    (by decide +kernel)).trans ((leave1_arr m c 8).trans (experts_right8 _ c))) (ix2 n d)).trans ?_
  rw [show enter1 m c main_v4_1 = _ from first_5 m c]
  exact parts h _ n d

theorem right2_11 (n : Fin 10000) (d : Fin 256) :
    bufs11 m c main_v23_2 (ix2 n d) = ∑ k : Fin 256, hidden (inputs m c) G (second (gate (inputs m c) n)) n k
      * (inputs m c).wr2 (ix3 (second (gate (inputs m c) n)) k d) := by
  refine (congrFun ((pass_late m c main_v23_2 (by decide +kernel) (by decide +kernel) (by decide +kernel) (by decide +kernel)
    (by decide +kernel)).trans ((leave1_arr m c 9).trans (experts_right9 _ c))) (ix2 n d)).trans ?_
  rw [show enter1 m c main_v4_2 = _ from second_5 m c]
  exact parts h _ n d

/-! ## The second layer's sums over the edges -/

/-- The left products of every expert, as the second call leaves them. -/
def products (m : (ℓ : Loc nD τ sig) → Buf (Elt Ideal) ℓ) (c : Dev nD) : FVec Ideal S8x10000x256 .f32 := bufs6 m c main_v23_0

omit h in
theorem v24_9 : bufs9 m c main_v24 = stacked (products m c) :=
  (pass9 m c main_v24 (by decide +kernel)).trans ((pass8 m c main_v24 (by decide +kernel)).trans (after2_v24 _))

omit h in
theorem v27_7 (n : Fin 10000) (s : Fin 2) : bufs7 m c main_v27 (ix2 n s) = BitVec.ofNat 32 (Ref.experts (inputs m c) n s * 10000) := by
  refine (congrFun (after2_v27 _) _).trans ((starts_at _ n s).trans ?_)
  rw [chosen_6]
  match s with
  | 0 => exact (BitVec.ofNat_mul _ _).symm
  | 1 => exact (BitVec.ofNat_mul _ _).symm

theorem v28_8 (j : Fin 160000) (s : Fin 2) :
    bufs8 m c main_v28 (ix2 j s) = BitVec.ofNat 32 (Ref.experts (inputs m c) (G.dst j) s * 10000) := by
  refine (congrFun (after2_1_v28 _) _).trans ?_
  rw [v3_7]
  exact (pairs_at _ _ G.dst (Ref.targets_word h) j s).trans (v27_7 _ s)

/-- The stacked row an edge reads. -/
def readRow (A : Inputs) (G : Ends) (i : Fin 320000) : Fin 80000 :=
  if h : i.val < 160000 then stackRow (Ref.experts A (G.dst ⟨i.val, h⟩) 0) (G.src ⟨i.val, h⟩)
  else stackRow (Ref.experts A (G.dst ⟨i.val - 160000, by omega⟩) 1) (G.src ⟨i.val - 160000, by omega⟩)

/-- The row an edge adds into. -/
def writeRow (G : Ends) (i : Fin 320000) : Fin 20000 :=
  if h : i.val < 160000 then ⟨(G.dst ⟨i.val, h⟩).val, by omega⟩ else ⟨10000 + (G.dst ⟨i.val - 160000, by omega⟩).val, by omega⟩

omit h in
theorem readRow0 (A : Inputs) (j : Fin 160000) : readRow A G (edge0 j) = stackRow (Ref.experts A (G.dst j) 0) (G.src j) :=
  dif_pos j.isLt

omit h in
theorem readRow1 (A : Inputs) (j : Fin 160000) : readRow A G (edge1 j) = stackRow (Ref.experts A (G.dst j) 1) (G.src j) := by
  have e : (⟨(edge1 j).val - 160000, by have := (edge1 j).isLt; omega⟩ : Fin 160000) = j := Fin.ext (by simp [edge1])
  refine (dif_neg (by simp [edge1])).trans ?_
  rw [e]

omit h in
theorem writeRow0 (j : Fin 160000) : writeRow G (edge0 j) = ⟨(G.dst j).val, by omega⟩ := dif_pos j.isLt

omit h in
theorem writeRow1 (j : Fin 160000) : writeRow G (edge1 j) = ⟨10000 + (G.dst j).val, by omega⟩ := by
  have e : (⟨(edge1 j).val - 160000, by have := (edge1 j).isLt; omega⟩ : Fin 160000) = j := Fin.ext (by simp [edge1])
  refine (dif_neg (by simp [edge1])).trans ?_
  exact Fin.ext (congrArg (fun x => 10000 + (G.dst x).val) e)

omit h in
theorem upper0 (j : Fin 160000) (n : Fin 10000) : writeRow G (edge0 j) = ⟨n.val, by omega⟩ ↔ G.dst j = n := by
  rw [writeRow0, Fin.mk.injEq, Fin.ext_iff]

omit h in
theorem upper1 (j : Fin 160000) (n : Fin 10000) : ¬ writeRow G (edge1 j) = ⟨n.val, by omega⟩ := by
  rw [writeRow1, Fin.mk.injEq]; omega

omit h in
theorem lower0 (j : Fin 160000) (n : Fin 10000) : ¬ writeRow G (edge0 j) = ⟨10000 + n.val, by omega⟩ := by
  rw [writeRow0, Fin.mk.injEq]; omega

omit h in
theorem lower1 (j : Fin 160000) (n : Fin 10000) : writeRow G (edge1 j) = ⟨10000 + n.val, by omega⟩ ↔ G.dst j = n := by
  rw [writeRow1, Fin.mk.injEq, Fin.ext_iff]; omega

theorem v35_9 (i : Fin 320000) : bufs9 m c main_v35 (ix1 i) = BitVec.ofNat 32 (readRow (inputs m c) G i) := by
  refine (congrFun (after2_2_v35 _) _).trans ?_
  rw [v1_8]
  rcases edge_cases i with ⟨j, rfl⟩ | ⟨j, rfl⟩
  · rw [readRow0, reads_at0, v28_8 h, Ref.sources_word h]
    exact (BitVec.ofNat_add _ _).symm
  · rw [readRow1, reads_at1, v28_8 h, Ref.sources_word h]
    exact (BitVec.ofNat_add _ _).symm

theorem v38_10 (i : Fin 320000) : bufs10 m c main_v38 (ix1 i) = BitVec.ofNat 32 (writeRow G i) := by
  refine (congrFun ((pass10 m c main_v38 (by decide +kernel)).trans (after2_2_v38 _)) _).trans ?_
  rw [v3_8]
  rcases edge_cases i with ⟨j, rfl⟩ | ⟨j, rfl⟩
  · rw [writeRow0, writes_at0, Ref.targets_word h]
  · rw [writeRow1, writes_at1, Ref.targets_word h]
    exact (BitVec.add_comm _ _).trans (BitVec.ofNat_add _ _).symm

theorem v39_10 (i : Fin 320000) (d : Fin 256) :
    bufs10 m c main_v39 (ix2 i d) = stacked (products m c) (ix2 (readRow (inputs m c) G i) d) := by
  refine (congrFun (after2_3_v39 _) _).trans ?_
  rw [v24_9]
  exact rows2_at _ _ _ (v35_9 h) i d

theorem both_sums (r : Fin 20000) (d : Fin 256) :
    sums2 (bufs10 m c main_v39) (bufs10 m c main_v38) (ix2 r d)
      = (∑ j, if writeRow G (edge0 j) = r then products m c (ix3 (Ref.experts (inputs m c) (G.dst j) 0) (G.src j) d) else (0 : EReal))
        + ∑ j, if writeRow G (edge1 j) = r then products m c (ix3 (Ref.experts (inputs m c) (G.dst j) 1) (G.src j) d) else (0 : EReal) := by
  rw [sums2_at _ _ _ (v38_10 h), sum_filter, sum_edges]
  refine congrArg₂ (· + ·) (sum_congr rfl fun j _ => ?_) (sum_congr rfl fun j _ => ?_)
  · rw [v39_10 h, readRow0, stacked_at]
  · rw [v39_10 h, readRow1, stacked_at]

/-- The sums a choice's rows leave at a node, from its experts' left products. -/
def gathered (A : Inputs) (G : Ends) (e : Fin 8) (n : Fin 10000) (d : Fin 256) : EReal :=
  ∑ j ∈ G.into n, ∑ k : Fin 256, hidden A G e (G.src j) k * A.wl2 (ix3 e k d)

theorem at_node (s : Fin 2) (n : Fin 10000) (d : Fin 256) :
    (∑ j, if G.dst j = n then products m c (ix3 (Ref.experts (inputs m c) (G.dst j) s) (G.src j) d) else (0 : EReal))
      = gathered (inputs m c) G (Ref.experts (inputs m c) n s) n d := by
  unfold gathered Ends.into
  rw [← sum_filter]
  refine sum_congr rfl fun j hj => ?_
  rw [(mem_filter.mp hj).2]
  exact left_6 h _ _ d

theorem v43_11 (n : Fin 10000) (d : Fin 256) :
    bufs11 m c main_v43 (ix2 n d) = gathered (inputs m c) G (first (gate (inputs m c) n)) n d := by
  refine (congrFun (after2_4_v43 _) _).trans ((upper_at _ n d).trans ((both_sums h _ d).trans ?_))
  simp only [upper0, upper1, if_false, sum_const_zero, add_zero]
  exact at_node h 0 n d

theorem v44_11 (n : Fin 10000) (d : Fin 256) :
    bufs11 m c main_v44 (ix2 n d) = gathered (inputs m c) G (second (gate (inputs m c) n)) n d := by
  refine (congrFun (after2_4_v44 _) _).trans ((lower_at _ n d).trans ((both_sums h _ d).trans ?_))
  simp only [lower0, lower1, if_false, sum_const_zero, zero_add]
  exact at_node h 1 n d

/-! ## What the third call leaves -/

/-- The aggregate of the products is the product of the aggregate. -/
theorem gathered_mean (A : Inputs) (e : Fin 8) (n : Fin 10000) (d : Fin 256) :
    gathered A G e n d * Ideal.div 1 (degree G n)
      = ∑ k : Fin 256, mean G (fun i => hidden A G e i k) n * A.wl2 (ix3 e k d) := by
  unfold gathered
  rw [aggregate_exchange _ _ (fun j k => hidden_nonneg e (G.src j) k) _ _ (recip_degree n).1 (recip_degree n).2]
  simp only [mean_eq]
  rfl

theorem choice_outcome (f : Fin 10000 → Fin 8) (g w : FVec Ideal S10000x256 .f32) (n : Fin 10000) (d : Fin 256)
    (hg : g (ix2 n d) = gathered (inputs m c) G (f n) n d)
    (hw : w (ix2 n d) = ∑ k : Fin 256, hidden (inputs m c) G (f n) n k * (inputs m c).wr2 (ix3 (f n) k d)) :
    choice (n := 10000) (fun i => gate (inputs m c) (i 0) (i 1)) (indicator f) g (recips (Ref.counts (Ref.targets (inputs m c).edges)))
      (inputs m c).bl2 w n d = outcome (inputs m c) G (f n) n d * gate (inputs m c) n (f n) := by
  unfold choice
  rw [hg, hw, recips_degree h, gathered_mean h]
  rw [mul_comm]
  simp only [indicator_at]
  refine congrArg₂ (· * ·) ?_ (sum_indicator_right (fun e => gate (inputs m c) n e) (f n))
  unfold outcome
  exact congrArg (fun b => max (_ + b + _) 0) (sum_indicator (fun e => (inputs m c).bl2 (ix2 e d)) (f n))

/-- The kernel computes the mixture. -/
theorem kernel_mixture (n : Fin 10000) (d : Fin 256) :
    (dat2 (enter2 m) c).arrAt 9 cfg2.N (ix2 n d) = mixture (inputs m c) G n d := by
  refine (congrFun (combine_result _ c) (ix2 n d)).trans ?_
  rw [show enter2 m c main_v4_0 = _ from p_11 m c, show enter2 m c main_v4_1 = _ from first_11 m c,
    show enter2 m c main_v4_2 = _ from second_11 m c, show enter2 m c main_v17 = _ from v17_11 m c,
    show enter2 m c main_arg8 = _ from args_bufs11 m c main_arg8 (by simp)]
  exact congrArg₂ (· + ·)
    (choice_outcome h (fun n => first (gate (inputs m c) n)) _ _ n d (v43_11 h n d) (right1_11 h n d))
    (choice_outcome h (fun n => second (gate (inputs m c) n)) _ _ n d (v44_11 h n d) (right2_11 h n d))

end Layers

end Cert.Proof
-- ==== Proof.Decode.lean ====
module

public import proofs.«01_k».proof.Pre_edges_in_range_top_logits_finite
public import proofs.«01_k».proof.Proof.Spec
public import proofs.«01_k».proof.Proof.Rows
public import Idealize.ShloMosaic.Lib.StableHlo.Predicate
public import Idealize.ShloMosaic.Lib.WordCmp

@[expose] public section

set_option maxRecDepth 16384

noncomputable section

namespace Cert.Proof

open Idealize.ShloMosaic
open Finset

/-! What the precondition says of the inputs. -/

namespace Asked

open Cert.Pre_edges_in_range_top_logits_finite

theorem facts : Facts where
  bcast_S_S2x160000 := by decide
  reducesTo_S2x160000_S_d0_1 := by decide +kernel
  h_S_ := by decide
  bcast_S8_S1x8_1 := by decide
  bcast_S1x8_S10000x8_0_1 := by decide
  reducesTo_S10000x8_S10000_d1 := by decide +kernel
  bcast_S_S10000 := by decide
  reducesTo_S10000_S_d0 := by decide +kernel
  dot_S10000x256_S256x8_S10000x8_1_0_0_1_n_n_wf := by decide +kernel

instance : Facts := facts

theorem andi_one {p q : BitVec 1} : IntOp.andi p q = 1#1 → p = 1#1 ∧ q = 1#1 := by revert p q; decide

/-- A conjunction over a finite set is one only where every bit is. -/
theorem all_of_fold {ι : Type} [DecidableEq ι] (S : Finset ι) (f : ι → BitVec 1) (h : S.fold IntOp.andi 1#1 f = 1#1) : ∀ i ∈ S, f i = 1#1 := by
  induction S using Finset.cons_induction with
  | empty => simp
  | cons a S ha ih =>
    rw [fold_cons] at h
    obtain ⟨h1, h2⟩ := andi_one h
    intro i hi
    rcases mem_cons.mp hi with rfl | hi
    · exact h1
    · exact ih h2 i hi

/-- A conjunction over every axis is one only where every bit is. -/
theorem all_of_reduce {s : Shape} {axes : List (Fin s.rank)} (x : IVec s 1) (hr : s.ReducesTo axes S_) (hu : 0 < S_.numel) (j : S_.Idx)
    (h : Host.reduce IntOp.andi x (constantI S_ 1 1#1) hr hu j = 1#1) (i : s.Idx) : x i = 1#1 := by
  classical
  rw [Host.reduce_eq_fold] at h
  exact all_of_fold _ x h i (mem_filter.mpr ⟨mem_univ _, funext fun a => Fin.elim0 a⟩)

variable (x : FVec Ideal S10000x256 .f32) (edges : IVec S2x160000 32) (wg : FVec Ideal S256x8 .f32) (bg : FVec Ideal S8 .f32)

/-- The bit that an edge word names a node. -/
def edgeBits : IVec S2x160000 1 :=
  andi (cmpi .sge edges (broadcastInDim S2x160000 ![] Facts.bcast_S_S2x160000 (constantI S_ 32 0#32)))
    (cmpi .slt edges (broadcastInDim S2x160000 ![] Facts.bcast_S_S2x160000 (constantI S_ 32 10000#32)))

/-- The bit that a node's greatest logit is finite. -/
def logitBits : IVec S10000 1 :=
  cmpf .olt (Host.absf (Host.reduce FloatOps.maximumf (addf (Host.dotGeneral dot_S10000x256_S256x8_S10000x8_1_0_0_1_n_n none x wg)
      (broadcastInDim S10000x8 ![0, 1] Facts.bcast_S1x8_S10000x8_0_1 (broadcastInDim S1x8 ![1] Facts.bcast_S8_S1x8_1 bg)))
      (constant S_ .f32 0xFF800000#32) Facts.reducesTo_S10000x8_S10000_d1 Facts.h_S_))
    (broadcastInDim S10000 ![] Facts.bcast_S_S10000 (constant S_ .f32 0x7F800000#32))

theorem edgeBits_at (i : S2x160000.Idx) : edgeBits edges i = BitVec.ofBool (decide ((edges i).toNat < 10000)) := by
  refine Eq.trans ?_ (WordCmp.andi_sge_zero_slt_ofNat (w := 32) (k := 10000) (by norm_num) (edges i))
  pointwise [edgeBits]

theorem logitBits_at (n : Fin 10000) :
    logitBits x wg bg (ix1 n) = BitVec.ofBool (decide (max (top (logit x wg bg n)) (-top (logit x wg bg n)) < ⊤)) := by
  pointwise [logitBits]
  rw [ofBits_neg_inf]
  rfl

variable (wl1 : FVec Ideal S8x256x256 .f32) (bl1 : FVec Ideal S8x256 .f32) (wr1 wl2 : FVec Ideal S8x256x256 .f32)
  (bl2 : FVec Ideal S8x256 .f32) (wr2 : FVec Ideal S8x256x256 .f32)

theorem bits_one (h : fn (F := Ideal) x edges wg bg wl1 bl1 wr1 wl2 bl2 wr2 = fun _ => 1#1) :
    (∀ i, edgeBits edges i = 1#1) ∧ ∀ i, logitBits x wg bg i = 1#1 := by
  have j : S_.Idx := fun a => Fin.elim0 a
  obtain ⟨h1, h2⟩ := andi_one (congrFun h j)
  exact ⟨all_of_reduce (edgeBits edges) Facts.reducesTo_S2x160000_S_d0_1 Facts.h_S_ j h1,
    all_of_reduce (logitBits x wg bg) Facts.reducesTo_S10000_S_d0 Facts.h_S_ j h2⟩

/-- Inputs that the precondition admits are good, for the ends that the edge words name. -/
theorem good (h : fn (F := Ideal) x edges wg bg wl1 bl1 wr1 wl2 bl2 wr2 = fun _ => 1#1) :
    ∃ G, Good ⟨x, edges, wg, bg, wl1, bl1, wr1, wl2, bl2, wr2⟩ G := by
  obtain ⟨he, hl⟩ := bits_one x edges wg bg wl1 bl1 wr1 wl2 bl2 wr2 h
  have hn : ∀ i, (edges i).toNat < 10000 := fun i => by
    have := he i
    rw [edgeBits_at] at this
    exact of_decide_eq_true ((StableHlo.Predicate.ofBool_eq_one_iff _).mp this)
  refine ⟨⟨fun j => ⟨_, hn (ix2 0 j)⟩, fun j => ⟨_, hn (ix2 1 j)⟩⟩, fun j => ?_, fun j => ?_, fun n => ?_⟩
  · exact (BitVec.ofNat_toNat 32 _).symm ▸ by simp
  · exact (BitVec.ofNat_toNat 32 _).symm ▸ by simp
  · have := hl (ix1 n)
    rw [logitBits_at] at this
    have lt := of_decide_eq_true ((StableHlo.Predicate.ofBool_eq_one_iff _).mp this)
    obtain ⟨l1, l2⟩ := max_lt_iff.mp lt
    exact ⟨l1.ne, fun e => by rw [e] at l2; simp at l2⟩

end Asked

end Cert.Proof
-- ==== Proof.Value.lean ====
module

public import proofs.«01_k».proof.Proof.Frames
public import proofs.«01_k».proof.Proof.KernelValue
public import proofs.«01_k».proof.Proof.RefValue
public import proofs.«01_k».proof.Proof.Decode

@[expose] public section

noncomputable section

namespace Cert.Proof

open Idealize.ShloMosaic Idealize.ShloMosaic.TcCoe Idealize.SL.Sem

/-! The value claim: from inputs that the precondition admits both programs end with the same array, the mixture. -/

/-- The mixture as an array. -/
def answer (A : Inputs) (G : Ends) : FVec Ideal ⟨2, ![10000, 256]⟩ .f32 := fun i => mixture A G (i 0) (i 1)

theorem kernel_answer (m : (ℓ : Loc KernelIdeal.nD KernelIdeal.τ KernelIdeal.sig) → Buf (Elt Ideal) ℓ) (c : Dev KernelIdeal.nD) {G : Ends}
    (h : Good (inputs m c) G) : (dat2 (enter2 m) c).arrAt 9 KernelIdeal.cfg2.N = answer (inputs m c) G := by
  funext i
  rw [eq_ix2 i]
  exact kernel_mixture h (i 0) (i 1)

theorem reference_answer {A : Inputs} {G : Ends} (h : Good A G) :
    Ref.blend (Ref.picked (Ref.second2 (Ref.first1 A.x A.edges A.wl1 A.bl1 A.wr1) A.edges A.wl2 A.bl2 A.wr2)
      (Ref.places (Ref.softmax (Ref.scores A.x A.wg A.bg)))) (Ref.values (Ref.softmax (Ref.scores A.x A.wg A.bg))) = answer A G := by
  funext i
  rw [eq_ix2 i]
  exact Ref.blend_mixture h (i 0) (i 1)

theorem same_values : Cert.algebraic_KernelIdeal_ReferenceIdeal_pre_edges_in_range_top_logits_finite (hPre_edges_in_range_top_logits_finite := Asked.facts) := by
  intro m g m' g' hpre hargs
  have good : ∀ c, ∃ G, Good (inputs m c) G := fun c => Asked.good _ _ _ _ _ _ _ _ _ _ (hpre c)
  refine ⟨fun c => (dat2 (enter2 m) c).arrAt 9 KernelIdeal.cfg2.N, (θ_run KernelIdeal.defs _ _).mono (fun r h => h.1) (run m g),
    (θ_run ReferenceIdeal.defs _ _).mono (fun r h c => ⟨(h c).1.trans ?_, (h c).2⟩) (ReferenceIdeal.Value.run m' g')⟩
  obtain ⟨G, hG⟩ := good c
  obtain ⟨h0, h1, h2, h3, h4, h5, h6, h7, h8, h9⟩ := hargs c
  refine Eq.trans ?_ (kernel_answer m c hG).symm
  rw [← reference_answer hG, Ref.res_stages, h0, h1, h2, h3, h4, h5, h6, h7, h8, h9]
  rfl

end Cert.Proof
-- ==== Proof.lean ====
module

public import proofs.«01_k».proof.Defs
public import proofs.«01_k».proof.Proof.Frames
public import proofs.«01_k».proof.Proof.Value

@[expose] public section

noncomputable section

namespace Cert.Proof

theorem claim : Cert.Claim :=
  ⟨Cert.Kernel.Gen.facts, Cert.KernelIdeal.Gen.facts, Cert.ReferenceIdeal.Gen.facts, Asked.facts,
    frame_kernel, frame_kernelIdeal, fun m g _ => frame_kernelIdeal m g trivial,
    frame_referenceIdeal, fun m g _ => frame_referenceIdeal m g trivial, trivial, same_values⟩

end Cert.Proof

end
